-- ==== Defs.lean ====
def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxRefIdeal (m : (ℓ : Loc Cert.AmaxRefIdeal.nD Cert.AmaxRefIdeal.τ Cert.AmaxRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxRefIdeal [hAmaxRefIdeal : Cert.AmaxRefIdeal.Facts] : Prop :=
  ∀ (m : (ℓ : Loc Cert.AmaxRefIdeal.nD Cert.AmaxRefIdeal.τ Cert.AmaxRefIdeal.sig) → Buf (Elt Ideal) ℓ) (g : Dev Cert.AmaxRefIdeal.nD → PrngReg), Pre_AmaxRefIdeal m →
    θ_run (Cert.AmaxRefIdeal.defs (F := Ideal)) (onTc (τ := Cert.AmaxRefIdeal.τ) (Cert.AmaxRefIdeal.main (F := Ideal))) ⟨m, fun _ => 0, g⟩ (fun r => (∀ c : Dev Cert.AmaxRefIdeal.nD,
      r.2.mem ((c.tc : Thread Cert.AmaxRefIdeal.nD Cert.AmaxRefIdeal.τ).loc Cert.AmaxRefIdeal.main_arg0) = m ((c.tc : Thread Cert.AmaxRefIdeal.nD Cert.AmaxRefIdeal.τ).loc Cert.AmaxRefIdeal.main_arg0))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2)
      ∧ r.2.mem ((c.tc : Thread Cert.Dw1.nD Cert.Dw1.τ).loc Cert.Dw1.main_arg3) = m ((c.tc : Thread Cert.Dw1.nD Cert.Dw1.τ).loc Cert.Dw1.main_arg3))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
      ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2)
      ∧ r.2.mem ((c.tc : Thread Cert.Dw1RefIdeal.nD Cert.Dw1RefIdeal.τ).loc Cert.Dw1RefIdeal.main_arg3) = m ((c.tc : Thread Cert.Dw1RefIdeal.nD Cert.Dw1RefIdeal.τ).loc Cert.Dw1RefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3))
      ∧ r.2.sem = fun _ => 0)

def preserves_Amax_AmaxIdeal : Prop :=
  True

def algebraic_AmaxIdeal_AmaxRefIdeal [hAmaxIdeal : Cert.AmaxIdeal.Facts] [hAmaxRefIdeal : Cert.AmaxRefIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxRefIdeal.nD Cert.AmaxRefIdeal.τ Cert.AmaxRefIdeal.sig) → Buf (Elt Ideal) ℓ) (g' : Dev Cert.AmaxRefIdeal.nD → PrngReg), Pre_AmaxIdeal m →
    (∀ c : Dev Cert.AmaxIdeal.nD,
      m' ((c.tc : Thread Cert.AmaxRefIdeal.nD Cert.AmaxRefIdeal.τ).loc Cert.AmaxRefIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v19)) (v1 : (c : Dev Cert.AmaxIdeal.nD) → Buf (Elt Ideal) ((c.tc : Thread Cert.AmaxIdeal.nD Cert.AmaxIdeal.τ).loc Cert.AmaxIdeal.main_v23)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v19) = v0 c
          ∧ r.2.mem ((c.tc : Thread Cert.AmaxIdeal.nD Cert.AmaxIdeal.τ).loc Cert.AmaxIdeal.main_v23) = v1 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxRefIdeal.defs (F := Ideal)) (onTc (τ := Cert.AmaxRefIdeal.τ) (Cert.AmaxRefIdeal.main (F := Ideal))) ⟨m', fun _ => 0, g'⟩ (fun r => ∀ c : Dev Cert.AmaxRefIdeal.nD,
          r.2.mem ((c.tc : Thread Cert.AmaxRefIdeal.nD Cert.AmaxRefIdeal.τ).loc Cert.AmaxRefIdeal.main_v19) = v0 c
          ∧ r.2.mem ((c.tc : Thread Cert.AmaxRefIdeal.nD Cert.AmaxRefIdeal.τ).loc Cert.AmaxRefIdeal.main_v23) = v1 c
          ∧ r.2.mem ((c.tc : Thread Cert.AmaxRefIdeal.nD Cert.AmaxRefIdeal.τ).loc Cert.AmaxRefIdeal.main_arg0) = m' ((c.tc : Thread Cert.AmaxRefIdeal.nD Cert.AmaxRefIdeal.τ).loc Cert.AmaxRefIdeal.main_arg0))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v6_0)) (v1 : (c : Dev Cert.DaIdeal.nD) → Buf (Elt Ideal) ((c.tc : Thread Cert.DaIdeal.nD Cert.DaIdeal.τ).loc Cert.DaIdeal.main_v6_1)) (v2 : (c : Dev Cert.DaIdeal.nD) → Buf (Elt Ideal) ((c.tc : Thread Cert.DaIdeal.nD Cert.DaIdeal.τ).loc Cert.DaIdeal.main_v24)) (v3 : (c : Dev Cert.DaIdeal.nD) → Buf (Elt Ideal) ((c.tc : Thread Cert.DaIdeal.nD Cert.DaIdeal.τ).loc Cert.DaIdeal.main_v28)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v6_0) = v0 c
          ∧ r.2.mem ((c.tc : Thread Cert.DaIdeal.nD Cert.DaIdeal.τ).loc Cert.DaIdeal.main_v6_1) = v1 c
          ∧ r.2.mem ((c.tc : Thread Cert.DaIdeal.nD Cert.DaIdeal.τ).loc Cert.DaIdeal.main_v24) = v2 c
          ∧ r.2.mem ((c.tc : Thread Cert.DaIdeal.nD Cert.DaIdeal.τ).loc Cert.DaIdeal.main_v28) = v3 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v5_0) = v0 c
          ∧ r.2.mem ((c.tc : Thread Cert.DaRefIdeal.nD Cert.DaRefIdeal.τ).loc Cert.DaRefIdeal.main_v5_1) = v1 c
          ∧ r.2.mem ((c.tc : Thread Cert.DaRefIdeal.nD Cert.DaRefIdeal.τ).loc Cert.DaRefIdeal.main_v23) = v2 c
          ∧ r.2.mem ((c.tc : Thread Cert.DaRefIdeal.nD Cert.DaRefIdeal.τ).loc Cert.DaRefIdeal.main_v27) = v3 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v5_0)) (v1 : (c : Dev Cert.DxIdeal.nD) → Buf (Elt Ideal) ((c.tc : Thread Cert.DxIdeal.nD Cert.DxIdeal.τ).loc Cert.DxIdeal.main_v5_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v5_0) = v0 c
          ∧ r.2.mem ((c.tc : Thread Cert.DxIdeal.nD Cert.DxIdeal.τ).loc Cert.DxIdeal.main_v5_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v4_0) = v0 c
          ∧ r.2.mem ((c.tc : Thread Cert.DxRefIdeal.nD Cert.DxRefIdeal.τ).loc Cert.DxRefIdeal.main_v4_1) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)
      ∧ m' ((c.tc : Thread Cert.Dw1RefIdeal.nD Cert.Dw1RefIdeal.τ).loc Cert.Dw1RefIdeal.main_arg3) = m ((c.tc : Thread Cert.Dw1Ideal.nD Cert.Dw1Ideal.τ).loc Cert.Dw1Ideal.main_arg3)) →
    ∃ (v0 : (c : Dev Cert.Dw1Ideal.nD) → Buf (Elt Ideal) ((c.tc : Thread Cert.Dw1Ideal.nD Cert.Dw1Ideal.τ).loc Cert.Dw1Ideal.main_v3)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v3) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2)
          ∧ r.2.mem ((c.tc : Thread Cert.Dw1Ideal.nD Cert.Dw1Ideal.τ).loc Cert.Dw1Ideal.main_arg3) = m ((c.tc : Thread Cert.Dw1Ideal.nD Cert.Dw1Ideal.τ).loc Cert.Dw1Ideal.main_arg3))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v3) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)
          ∧ r.2.mem ((c.tc : Thread Cert.Dw1RefIdeal.nD Cert.Dw1RefIdeal.τ).loc Cert.Dw1RefIdeal.main_arg3) = m' ((c.tc : Thread Cert.Dw1RefIdeal.nD Cert.Dw1RefIdeal.τ).loc Cert.Dw1RefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)) →
    ∃ (v0 : (c : Dev Cert.Dw2Ideal.nD) → Buf (Elt Ideal) ((c.tc : Thread Cert.Dw2Ideal.nD Cert.Dw2Ideal.τ).loc Cert.Dw2Ideal.main_v3)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v3) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v3) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3))

def Claim : Prop :=
  ∃ (hAmax : Cert.Amax.Facts) (hAmaxIdeal : Cert.AmaxIdeal.Facts) (hAmaxRefIdeal : Cert.AmaxRefIdeal.Facts) (hDa : Cert.Da.Facts) (hDaIdeal : Cert.DaIdeal.Facts) (hDaRefIdeal : Cert.DaRefIdeal.Facts) (hDx : Cert.Dx.Facts) (hDxIdeal : Cert.DxIdeal.Facts) (hDxRefIdeal : Cert.DxRefIdeal.Facts) (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts),
    quiescent_Amax (hAmax := hAmax)
    ∧ quiescent_AmaxIdeal (hAmaxIdeal := hAmaxIdeal)
    ∧ quiescent_AmaxRefIdeal (hAmaxRefIdeal := hAmaxRefIdeal)
    ∧ quiescent_Da (hDa := hDa)
    ∧ quiescent_DaIdeal (hDaIdeal := hDaIdeal)
    ∧ quiescent_DaRefIdeal (hDaRefIdeal := hDaRefIdeal)
    ∧ quiescent_Dx (hDx := hDx)
    ∧ quiescent_DxIdeal (hDxIdeal := hDxIdeal)
    ∧ quiescent_DxRefIdeal (hDxRefIdeal := hDxRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ preserves_Amax_AmaxIdeal
    ∧ algebraic_AmaxIdeal_AmaxRefIdeal (hAmaxIdeal := hAmaxIdeal) (hAmaxRefIdeal := hAmaxRefIdeal)
    ∧ preserves_Da_DaIdeal
    ∧ algebraic_DaIdeal_DaRefIdeal (hDaIdeal := hDaIdeal) (hDaRefIdeal := hDaRefIdeal)
    ∧ preserves_Dx_DxIdeal
    ∧ algebraic_DxIdeal_DxRefIdeal (hDxIdeal := hDxIdeal) (hDxRefIdeal := hDxRefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
-- ==== Amax.lean ====
abbrev S16x1024x2048 : Shape := ⟨3, ![16, 1024, 2048]⟩
abbrev S16384x2048 : Shape := ⟨2, ![16384, 2048]⟩
abbrev S1x1 : Shape := ⟨2, ![1, 1]⟩
abbrev S1024x2048 : Shape := ⟨2, ![1024, 2048]⟩
abbrev S16x2048 : Shape := ⟨2, ![16, 2048]⟩
abbrev S64x16x2048 : Shape := ⟨3, ![64, 16, 2048]⟩
abbrev S1x16x2048 : Shape := ⟨3, ![1, 16, 2048]⟩
abbrev S1 : Shape := ⟨1, ![1]⟩
abbrev S1x1x1 : Shape := ⟨3, ![1, 1, 1]⟩
abbrev S_ : Shape := ⟨0, ![]⟩
abbrev S254 : Shape := ⟨1, ![254]⟩

abbrev nBuf : Space → Nat
  | .hbm => 37
  | .vmem => 3
  | .smem => 1
  | _ => 0

abbrev bufTy : (tb : Table) → Fin (tcTables nBuf tb) → BufTy
  | .hbm, ⟨0, _⟩ => ⟨S16x1024x2048, .bf16⟩
  | .hbm, ⟨1, _⟩ => ⟨S16384x2048, .bf16⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S254, .i32⟩
  | .hbm, ⟨7, _⟩ => ⟨S_, .i32⟩
  | .hbm, ⟨8, _⟩ => ⟨S254, .i32⟩
  | .hbm, ⟨9, _⟩ => ⟨S254, .i32⟩
  | .hbm, ⟨10, _⟩ => ⟨S_, .i32⟩
  | .hbm, ⟨11, _⟩ => ⟨S254, .i32⟩
  | .hbm, ⟨12, _⟩ => ⟨S254, .i32⟩
  | .hbm, ⟨13, _⟩ => ⟨S254, .f32⟩
  | .hbm, ⟨14, _⟩ => ⟨S254, .f32⟩
  | .hbm, ⟨15, _⟩ => ⟨S254, .i1⟩
  | .hbm, ⟨16, _⟩ => ⟨S254, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .smem, ⟨0, _⟩ => ⟨S1x1, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_c_4 : Ref sig .tc := ⟨.hbm, 23, rfl⟩
abbrev main_call0_v0 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_7 : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== AmaxRefIdeal.lean ====
abbrev S16x1024x2048 : Shape := ⟨3, ![16, 1024, 2048]⟩
abbrev S_ : Shape := ⟨0, ![]⟩
abbrev S254 : Shape := ⟨1, ![254]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x2048, .f32⟩
  | .hbm, ⟨2, _⟩ => ⟨S16x1024x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S254, .f32⟩
  | .hbm, ⟨16, _⟩ => ⟨S254, .i1⟩
  | .hbm, ⟨17, _⟩ => ⟨S254, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .f32⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_c_5 : Ref sig .tc := ⟨.hbm, 24, rfl⟩
abbrev main_call0_v0 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_c_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_8 : Ref sig .tc := ⟨.hbm, 33, rfl⟩
abbrev main_v21 : Ref sig .tc := ⟨.hbm, 34, rfl⟩
abbrev main_c_9 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Da.lean ====
abbrev S_ : Shape := ⟨0, ![]⟩
abbrev S16x1024x2048 : Shape := ⟨3, ![16, 1024, 2048]⟩
abbrev S16x1024x11264 : Shape := ⟨3, ![16, 1024, 11264]⟩
abbrev S5632x2048 : Shape := ⟨2, ![5632, 2048]⟩
abbrev S1 : Shape := ⟨1, ![1]⟩
abbrev S2 : Shape := ⟨1, ![2]⟩
abbrev S16384x2048 : Shape := ⟨2, ![16384, 2048]⟩
abbrev S16384x11264 : Shape := ⟨2, ![16384, 11264]⟩
abbrev S16384x5632 : Shape := ⟨2, ![16384, 5632]⟩
abbrev S1x1 : Shape := ⟨2, ![1, 1]⟩
abbrev S256x2048 : Shape := ⟨2, ![256, 2048]⟩
abbrev S256x5632 : Shape := ⟨2, ![256, 5632]⟩
abbrev S8x512 : Shape := ⟨2, ![8, 512]⟩
abbrev S512x2048 : Shape := ⟨2, ![512, 2048]⟩
abbrev S256x512 : Shape := ⟨2, ![256, 512]⟩
abbrev S32x8x512 : Shape := ⟨3, ![32, 8, 512]⟩
abbrev S1x8x512 : Shape := ⟨3, ![1, 8, 512]⟩
abbrev S1x1x1 : Shape := ⟨3, ![1, 1, 1]⟩
abbrev S254 : Shape := ⟨1, ![254]⟩

abbrev nBuf : Space → Nat
  | .hbm => 49
  | .vmem => 12
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S16x1024x2048, .bf16⟩
  | .hbm, ⟨4, _⟩ => ⟨S16x1024x11264, .bf16⟩
  | .hbm, ⟨5, _⟩ => ⟨S5632x2048, .fp8e4m3⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S16384x2048, .bf16⟩
  | .hbm, ⟨11, _⟩ => ⟨S16384x11264, .bf16⟩
  | .hbm, ⟨12, _⟩ => ⟨S16384x5632, .f32⟩
  | .hbm, ⟨13, _⟩ => ⟨S16384x2048, .fp8e5m2⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S254, .i32⟩
  | .hbm, ⟨19, _⟩ => ⟨S_, .i32⟩
  | .hbm, ⟨20, _⟩ => ⟨S254, .i32⟩
  | .hbm, ⟨21, _⟩ => ⟨S254, .i32⟩
  | .hbm, ⟨22, _⟩ => ⟨S_, .i32⟩
  | .hbm, ⟨23, _⟩ => ⟨S254, .i32⟩
  | .hbm, ⟨24, _⟩ => ⟨S254, .i32⟩
  | .hbm, ⟨25, _⟩ => ⟨S254, .f32⟩
  | .hbm, ⟨26, _⟩ => ⟨S254, .f32⟩
  | .hbm, ⟨27, _⟩ => ⟨S254, .i1⟩
  | .hbm, ⟨28, _⟩ => ⟨S254, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S5632x2048, .fp8e4m3⟩
  | .local _ .vmem, ⟨7, _⟩ => ⟨S256x5632, .f32⟩
  | .local _ .vmem, ⟨8, _⟩ => ⟨S256x5632, .f32⟩
  | .local _ .vmem, ⟨9, _⟩ => ⟨S256x2048, .fp8e5m2⟩
  | .local _ .vmem, ⟨10, _⟩ => ⟨S256x2048, .fp8e5m2⟩
  | .local _ .vmem, ⟨11, _⟩ => ⟨S8x512, .f32⟩
  | .local _ .smem, ⟨0, _⟩ => ⟨S2, .f32⟩
  | .local _ .smem, ⟨1, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_c_4 : Ref sig .tc := ⟨.hbm, 35, rfl⟩
abbrev main_call0_v0 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v359 : BitVec 1 := Scalar.cmpi .eq arg0 c63_i32
  let v360 : BitVec 32 := Scalar.extui v359
  let c0_i32_174 : BitVec 32 := 0#32
  let v361 : BitVec 1 := Scalar.cmpi .ne v360 c0_i32_174
  v361

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DaRefIdeal.lean ====
abbrev S_ : Shape := ⟨0, ![]⟩
abbrev S16x1024x2048 : Shape := ⟨3, ![16, 1024, 2048]⟩
abbrev S16x1024x11264 : Shape := ⟨3, ![16, 1024, 11264]⟩
abbrev S5632x2048 : Shape := ⟨2, ![5632, 2048]⟩
abbrev S1 : Shape := ⟨1, ![1]⟩
abbrev S16384x2048 : Shape := ⟨2, ![16384, 2048]⟩
abbrev S16384x11264 : Shape := ⟨2, ![16384, 11264]⟩
abbrev S16384x5632 : Shape := ⟨2, ![16384, 5632]⟩
abbrev S1x1 : Shape := ⟨2, ![1, 1]⟩
abbrev S1x16384x11264 : Shape := ⟨3, ![1, 16384, 11264]⟩
abbrev S1x1x1 : Shape := ⟨3, ![1, 1, 1]⟩
abbrev S254 : Shape := ⟨1, ![254]⟩

abbrev nBuf : Space → Nat
  | .hbm => 48
  | .vmem => 5
  | .smem => 4
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S16x1024x2048, .bf16⟩
  | .hbm, ⟨4, _⟩ => ⟨S16x1024x11264, .bf16⟩
  | .hbm, ⟨5, _⟩ => ⟨S5632x2048, .fp8e4m3⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S16384x2048, .bf16⟩
  | .hbm, ⟨10, _⟩ => ⟨S16384x11264, .bf16⟩
  | .hbm, ⟨11, _⟩ => ⟨S16384x5632, .f32⟩
  | .hbm, ⟨12, _⟩ => ⟨S16384x2048, .fp8e5m2⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S254, .i32⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S_, .i32⟩
  | .hbm, ⟨22, _⟩ => ⟨S254, .i32⟩
  | .hbm, ⟨23, _⟩ => ⟨S254, .i32⟩
  | .hbm, ⟨24, _⟩ => ⟨S254, .f32⟩
  | .hbm, ⟨25, _⟩ => ⟨S254, .f32⟩
  | .hbm, ⟨26, _⟩ => ⟨S254, .i1⟩
  | .hbm, ⟨27, _⟩ => ⟨S254, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .f32⟩
  | .local _ .vmem, ⟨0, _⟩ => ⟨S16384x2048, .bf16⟩
  | .local _ .vmem, ⟨1, _⟩ => ⟨S16384x11264, .bf16⟩
  | .local _ .vmem, ⟨2, _⟩ => ⟨S5632x2048, .fp8e4m3⟩
  | .local _ .vmem, ⟨3, _⟩ => ⟨S16384x5632, .f32⟩
  | .local _ .vmem, ⟨4, _⟩ => ⟨S16384x2048, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_c_4 : Ref sig .tc := ⟨.hbm, 34, rfl⟩
abbrev main_call0_v0 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg8_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5632x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2048 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Dx.lean ====
abbrev S_ : Shape := ⟨0, ![]⟩
abbrev S16384x5632 : Shape := ⟨2, ![16384, 5632]⟩
abbrev S16x1024x11264 : Shape := ⟨3, ![16, 1024, 11264]⟩
abbrev S2048x11264 : Shape := ⟨2, ![2048, 11264]⟩
abbrev S1 : Shape := ⟨1, ![1]⟩
abbrev S2 : Shape := ⟨1, ![2]⟩
abbrev S16384x11264 : Shape := ⟨2, ![16384, 11264]⟩
abbrev S16384x2048 : Shape := ⟨2, ![16384, 2048]⟩
abbrev S256x2816 : Shape := ⟨2, ![256, 2816]⟩
abbrev S256x2048 : Shape := ⟨2, ![256, 2048]⟩
abbrev S256x11264 : Shape := ⟨2, ![256, 11264]⟩
abbrev S256x256 : Shape := ⟨2, ![256, 256]⟩
abbrev S512x11264 : Shape := ⟨2, ![512, 11264]⟩
abbrev S256x512 : Shape := ⟨2, ![256, 512]⟩

abbrev nBuf : Space → Nat
  | .hbm => 13
  | .vmem => 11
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S16384x5632, .f32⟩
  | .hbm, ⟨4, _⟩ => ⟨S16x1024x11264, .bf16⟩
  | .hbm, ⟨5, _⟩ => ⟨S2048x11264, .fp8e4m3⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S16384x11264, .bf16⟩
  | .hbm, ⟨11, _⟩ => ⟨S16384x2048, .bf16⟩
  | .hbm, ⟨12, _⟩ => ⟨S16384x11264, .fp8e5m2⟩
  | .local _ .vmem, ⟨0, _⟩ => ⟨S256x2816, .f32⟩
  | .local _ .vmem, ⟨1, _⟩ => ⟨S256x2816, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2048x11264, .fp8e4m3⟩
  | .local _ .vmem, ⟨7, _⟩ => ⟨S256x2048, .bf16⟩
  | .local _ .vmem, ⟨8, _⟩ => ⟨S256x2048, .bf16⟩
  | .local _ .vmem, ⟨9, _⟩ => ⟨S256x11264, .fp8e5m2⟩
  | .local _ .vmem, ⟨10, _⟩ => ⟨S256x11264, .fp8e5m2⟩
  | .local _ .smem, ⟨0, _⟩ => ⟨S2, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c2816_i32 : BitVec 32 := 2816#32
  let v1 : BitVec 32 := Scalar.muli arg1 c2816_i32
  let c0_i32 : BitVec 32 := 0#32
  let v11 : BitVec 32 := Scalar.addi v1 c0_i32
  v11
def k0_off1 (i : grid0.Coords) (c0_i32 : BitVec 32) : Fin 2 → Nat :=
  let c0_9 : Index := 0#32
  let arg1 : BitVec 32 := BitVec.ofNat 32 (i 1).val
  let c2816_i32 : BitVec 32 := 2816#32
  let v1 : BitVec 32 := Scalar.muli arg1 c2816_i32
  let v11 : BitVec 32 := Scalar.addi v1 c0_i32
  let v12 : BitVec 32 := v11
  let v27 : Index := Scalar.indexCast v12
  ![0, v27.toNat]
def k0_off2 (i : grid0.Coords) (c0_i32 : BitVec 32) : Fin 2 → Nat :=
  let c0_12 : Index := 0#32
  let arg1 : BitVec 32 := BitVec.ofNat 32 (i 1).val
  let c2816_i32 : BitVec 32 := 2816#32
  let v1 : BitVec 32 := Scalar.muli arg1 c2816_i32
  let v11 : BitVec 32 := Scalar.addi v1 c0_i32
  let v12 : BitVec 32 := v11
  let c5632_i32 : BitVec 32 := 5632#32
  let v37 : BitVec 32 := Scalar.addi v12 c5632_i32
  let v38 : Index := Scalar.indexCast v37
  ![0, v38.toNat]
def k0_mult2 (i : grid0.Coords) : BitVec 32 :=
  let arg1 : BitVec 32 := BitVec.ofNat 32 (i 1).val
  let c2816_i32 : BitVec 32 := 2816#32
  let v1 : BitVec 32 := Scalar.muli arg1 c2816_i32
  let c256_i32 : BitVec 32 := 256#32
  let v49 : BitVec 32 := Scalar.addi v1 c256_i32
  v49
def k0_mult3 (i : grid0.Coords) : BitVec 32 :=
  let arg1 : BitVec 32 := BitVec.ofNat 32 (i 1).val
  let c2816_i32 : BitVec 32 := 2816#32
  let v1 : BitVec 32 := Scalar.muli arg1 c2816_i32
  let c512_i32 : BitVec 32 := 512#32
  let v87 : BitVec 32 := Scalar.addi v1 c512_i32
  v87
def k0_mult4 (i : grid0.Coords) : BitVec 32 :=
  let arg1 : BitVec 32 := BitVec.ofNat 32 (i 1).val
  let c2816_i32 : BitVec 32 := 2816#32
  let v1 : BitVec 32 := Scalar.muli arg1 c2816_i32
  let c768_i32 : BitVec 32 := 768#32
  let v125 : BitVec 32 := Scalar.addi v1 c768_i32
  v125
def k0_mult5 (i : grid0.Coords) : BitVec 32 :=
  let arg1 : BitVec 32 := BitVec.ofNat 32 (i 1).val
  let c2816_i32 : BitVec 32 := 2816#32
  let v1 : BitVec 32 := Scalar.muli arg1 c2816_i32
  let c1024_i32 : BitVec 32 := 1024#32
  let v163 : BitVec 32 := Scalar.addi v1 c1024_i32
  v163
def k0_mult6 (i : grid0.Coords) : BitVec 32 :=
  let arg1 : BitVec 32 := BitVec.ofNat 32 (i 1).val
  let c2816_i32 : BitVec 32 := 2816#32
  let v1 : BitVec 32 := Scalar.muli arg1 c2816_i32
  let c1280_i32 : BitVec 32 := 1280#32
  let v201 : BitVec 32 := Scalar.addi v1 c1280_i32
  v201
def k0_mult7 (i : grid0.Coords) : BitVec 32 :=
  let arg1 : BitVec 32 := BitVec.ofNat 32 (i 1).val
  let c2816_i32 : BitVec 32 := 2816#32
  let v1 : BitVec 32 := Scalar.muli arg1 c2816_i32
  let c1536_i32 : BitVec 32 := 1536#32
  let v239 : BitVec 32 := Scalar.addi v1 c1536_i32
  v239
def k0_mult8 (i : grid0.Coords) : BitVec 32 :=
  let arg1 : BitVec 32 := BitVec.ofNat 32 (i 1).val
  let c2816_i32 : BitVec 32 := 2816#32
  let v1 : BitVec 32 := Scalar.muli arg1 c2816_i32
  let c1792_i32 : BitVec 32 := 1792#32
  let v277 : BitVec 32 := Scalar.addi v1 c1792_i32
  v277
def k0_mult9 (i : grid0.Coords) : BitVec 32 :=
  let arg1 : BitVec 32 := BitVec.ofNat 32 (i 1).val
  let c2816_i32 : BitVec 32 := 2816#32
  let v1 : BitVec 32 := Scalar.muli arg1 c2816_i32
  let c2048_i32 : BitVec 32 := 2048#32
  let v315 : BitVec 32 := Scalar.addi v1 c2048_i32
  v315
def k0_mult10 (i : grid0.Coords) : BitVec 32 :=
  let arg1 : BitVec 32 := BitVec.ofNat 32 (i 1).val
  let c2816_i32 : BitVec 32 := 2816#32
  let v1 : BitVec 32 := Scalar.muli arg1 c2816_i32
  let c2304_i32 : BitVec 32 := 2304#32
  let v353 : BitVec 32 := Scalar.addi v1 c2304_i32
  v353
def k0_mult11 (i : grid0.Coords) : BitVec 32 :=
  let arg1 : BitVec 32 := BitVec.ofNat 32 (i 1).val
  let c2816_i32 : BitVec 32 := 2816#32
  let v1 : BitVec 32 := Scalar.muli arg1 c2816_i32
  let c2560_i32 : BitVec 32 := 2560#32
  let v391 : BitVec 32 := Scalar.addi v1 c2560_i32
  v391
def k0_cond1 (i : grid0.Coords) : BitVec 1 :=
  let arg1 : BitVec 32 := BitVec.ofNat 32 (i 1).val
  let c1_i32 : BitVec 32 := 1#32
  let v420 : BitVec 1 := Scalar.cmpi .eq arg1 c1_i32
  let v421 : BitVec 32 := Scalar.extui v420
  let c0_i32_153 : BitVec 32 := 0#32
  let v422 : BitVec 1 := Scalar.cmpi .ne v421 c0_i32_153
  v422

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x11264 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x11264 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DxRefIdeal.lean ====
abbrev S_ : Shape := ⟨0, ![]⟩
abbrev S16384x5632 : Shape := ⟨2, ![16384, 5632]⟩
abbrev S16x1024x11264 : Shape := ⟨3, ![16, 1024, 11264]⟩
abbrev S2048x11264 : Shape := ⟨2, ![2048, 11264]⟩
abbrev S1 : Shape := ⟨1, ![1]⟩
abbrev S16384x11264 : Shape := ⟨2, ![16384, 11264]⟩
abbrev S16384x2048 : Shape := ⟨2, ![16384, 2048]⟩

abbrev nBuf : Space → Nat
  | .hbm => 12
  | .vmem => 5
  | .smem => 3
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S16384x5632, .f32⟩
  | .hbm, ⟨4, _⟩ => ⟨S16x1024x11264, .bf16⟩
  | .hbm, ⟨5, _⟩ => ⟨S2048x11264, .fp8e4m3⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S16384x11264, .bf16⟩
  | .hbm, ⟨10, _⟩ => ⟨S16384x2048, .bf16⟩
  | .hbm, ⟨11, _⟩ => ⟨S16384x11264, .fp8e5m2⟩
  | .local _ .vmem, ⟨0, _⟩ => ⟨S16384x5632, .f32⟩
  | .local _ .vmem, ⟨1, _⟩ => ⟨S16384x11264, .bf16⟩
  | .local _ .vmem, ⟨2, _⟩ => ⟨S2048x11264, .fp8e4m3⟩
  | .local _ .vmem, ⟨3, _⟩ => ⟨S16384x2048, .bf16⟩
  | .local _ .vmem, ⟨4, _⟩ => ⟨S16384x11264, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x11264 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x11264 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dw1.lean ====
abbrev S_ : Shape := ⟨0, ![]⟩
abbrev S16x1024x2048 : Shape := ⟨3, ![16, 1024, 2048]⟩
abbrev S16384x11264 : Shape := ⟨2, ![16384, 11264]⟩
abbrev S1 : Shape := ⟨1, ![1]⟩
abbrev S16384x2048 : Shape := ⟨2, ![16384, 2048]⟩
abbrev S2048x11264 : Shape := ⟨2, ![2048, 11264]⟩
abbrev S2048x2048 : Shape := ⟨2, ![2048, 2048]⟩
abbrev S2048x1024 : Shape := ⟨2, ![2048, 1024]⟩

abbrev nBuf : Space → Nat
  | .hbm => 8
  | .vmem => 7
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S16x1024x2048, .fp8e4m3⟩
  | .hbm, ⟨3, _⟩ => ⟨S16384x11264, .fp8e5m2⟩
  | .hbm, ⟨4, _⟩ => ⟨S_, .f32⟩
  | .hbm, ⟨5, _⟩ => ⟨S1, .f32⟩
  | .hbm, ⟨6, _⟩ => ⟨S16384x2048, .fp8e4m3⟩
  | .hbm, ⟨7, _⟩ => ⟨S2048x11264, .bf16⟩
  | .local _ .vmem, ⟨0, _⟩ => ⟨S2048x2048, .fp8e4m3⟩
  | .local _ .vmem, ⟨1, _⟩ => ⟨S2048x2048, .fp8e4m3⟩
  | .local _ .vmem, ⟨2, _⟩ => ⟨S2048x1024, .fp8e5m2⟩
  | .local _ .vmem, ⟨3, _⟩ => ⟨S2048x1024, .fp8e5m2⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dw1RefIdeal.lean ====
abbrev S_ : Shape := ⟨0, ![]⟩
abbrev S16x1024x2048 : Shape := ⟨3, ![16, 1024, 2048]⟩
abbrev S16384x11264 : Shape := ⟨2, ![16384, 11264]⟩
abbrev S1 : Shape := ⟨1, ![1]⟩
abbrev S16384x2048 : Shape := ⟨2, ![16384, 2048]⟩
abbrev S2048x11264 : Shape := ⟨2, ![2048, 11264]⟩

abbrev nBuf : Space → Nat
  | .hbm => 8
  | .vmem => 3
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S16x1024x2048, .fp8e4m3⟩
  | .hbm, ⟨3, _⟩ => ⟨S16384x11264, .fp8e5m2⟩
  | .hbm, ⟨4, _⟩ => ⟨S1, .f32⟩
  | .hbm, ⟨5, _⟩ => ⟨S1, .f32⟩
  | .hbm, ⟨6, _⟩ => ⟨S16384x2048, .fp8e4m3⟩
  | .hbm, ⟨7, _⟩ => ⟨S2048x11264, .bf16⟩
  | .local _ .vmem, ⟨0, _⟩ => ⟨S16384x2048, .fp8e4m3⟩
  | .local _ .vmem, ⟨1, _⟩ => ⟨S16384x11264, .fp8e5m2⟩
  | .local _ .vmem, ⟨2, _⟩ => ⟨S2048x11264, .bf16⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x11264 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw2.lean ====
abbrev S_ : Shape := ⟨0, ![]⟩
abbrev S16x1024x5632 : Shape := ⟨3, ![16, 1024, 5632]⟩
abbrev S16384x2048 : Shape := ⟨2, ![16384, 2048]⟩
abbrev S1 : Shape := ⟨1, ![1]⟩
abbrev S16384x5632 : Shape := ⟨2, ![16384, 5632]⟩
abbrev S5632x2048 : Shape := ⟨2, ![5632, 2048]⟩
abbrev S2048x1408 : Shape := ⟨2, ![2048, 1408]⟩
abbrev S2048x2048 : Shape := ⟨2, ![2048, 2048]⟩
abbrev S1408x2048 : Shape := ⟨2, ![1408, 2048]⟩

abbrev nBuf : Space → Nat
  | .hbm => 8
  | .vmem => 7
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S16x1024x5632, .fp8e4m3⟩
  | .hbm, ⟨3, _⟩ => ⟨S16384x2048, .fp8e5m2⟩
  | .hbm, ⟨4, _⟩ => ⟨S_, .f32⟩
  | .hbm, ⟨5, _⟩ => ⟨S1, .f32⟩
  | .hbm, ⟨6, _⟩ => ⟨S16384x5632, .fp8e4m3⟩
  | .hbm, ⟨7, _⟩ => ⟨S5632x2048, .bf16⟩
  | .local _ .vmem, ⟨0, _⟩ => ⟨S2048x1408, .fp8e4m3⟩
  | .local _ .vmem, ⟨1, _⟩ => ⟨S2048x1408, .fp8e4m3⟩
  | .local _ .vmem, ⟨2, _⟩ => ⟨S2048x2048, .fp8e5m2⟩
  | .local _ .vmem, ⟨3, _⟩ => ⟨S2048x2048, .fp8e5m2⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dw2RefIdeal.lean ====
abbrev S_ : Shape := ⟨0, ![]⟩
abbrev S16x1024x5632 : Shape := ⟨3, ![16, 1024, 5632]⟩
abbrev S16384x2048 : Shape := ⟨2, ![16384, 2048]⟩
abbrev S1 : Shape := ⟨1, ![1]⟩
abbrev S16384x5632 : Shape := ⟨2, ![16384, 5632]⟩
abbrev S5632x2048 : Shape := ⟨2, ![5632, 2048]⟩

abbrev nBuf : Space → Nat
  | .hbm => 8
  | .vmem => 3
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S16x1024x5632, .fp8e4m3⟩
  | .hbm, ⟨3, _⟩ => ⟨S16384x2048, .fp8e5m2⟩
  | .hbm, ⟨4, _⟩ => ⟨S1, .f32⟩
  | .hbm, ⟨5, _⟩ => ⟨S1, .f32⟩
  | .hbm, ⟨6, _⟩ => ⟨S16384x5632, .fp8e4m3⟩
  | .hbm, ⟨7, _⟩ => ⟨S5632x2048, .bf16⟩
  | .local _ .vmem, ⟨0, _⟩ => ⟨S16384x5632, .fp8e4m3⟩
  | .local _ .vmem, ⟨1, _⟩ => ⟨S16384x2048, .fp8e5m2⟩
  | .local _ .vmem, ⟨2, _⟩ => ⟨S5632x2048, .bf16⟩
  | .local _ .smem, ⟨0, _⟩ => ⟨S1, .f32⟩
  | .local _ .smem, ⟨1, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scales.lean ====
/-
  The quantiser's scales as functions of the largest magnitude: the scale is a power of two read off the exponent of the
  magnitude divided by the codes' greatest value, and the inverse scale is its reciprocal power.
-/
module

public import Idealize.ShloMosaic.Lib.Pointwise
public import Idealize.ShloMosaic.Lib.Tactic

@[expose] public section

noncomputable section

open Idealize.ShloMosaic

namespace Cert.Scales

abbrev S0 : Shape := ⟨0, ![]⟩
abbrev SP : Shape := ⟨1, ![254]⟩

theorem bcast : S0.BroadcastsInDim SP ![] := by decide
theorem lt_1_32 : 1 < 32 := by decide
theorem reducesTo : SP.ReducesTo [0] S0 := by decide
theorem pos : 0 < S0.numel := by decide

variable {F : FTy → Type} [FloatOps F]

/-- The normal powers of two, from the least up. -/
def powers : FVec F SP .f32 :=
  bitcastToFloat .f32 (Host.shli (addi (broadcastInDim SP ![] bcast (constantI S0 32 1#32)) (iotaInDim SP 32 0))
    (broadcastInDim SP ![] bcast (constantI S0 32 23#32)))

/-- The exponent of a largest magnitude over the codes' greatest value; zero for a zero magnitude. -/
def exponent (x : FVec F S0 .f32) : Vec F S0 .i32 :=
  select (cmpf .oeq x (constant S0 .f32 0x00000000#32)) (constantI S0 32 0#32)
    (subi (Host.reduce IntOp.addi (extui 32 (cmpf .oge (broadcastInDim SP ![] bcast (mulf x (constant S0 .f32 0x37924925#32))) powers) lt_1_32)
      (constantI S0 32 0#32) reducesTo pos) (constantI S0 32 126#32))

/-- The scale. -/
def scale (x : FVec F S0 .f32) : FVec F S0 .f32 :=
  bitcastToFloat .f32 (Host.shli (addi (exponent x) (constantI S0 32 127#32)) (constantI S0 32 23#32))

/-- The inverse scale. -/
def inv (x : FVec F S0 .f32) : FVec F S0 .f32 :=
  bitcastToFloat .f32 (Host.shli (addi (negi (exponent x)) (constantI S0 32 127#32)) (constantI S0 32 23#32))

end Cert.Scales

end
-- ==== Proof.AmaxKernel.lean ====
/-
  The value of the largest-magnitude kernel `amax`: its one-element array ends holding the least upper bound of the
  magnitudes of the 16384 rows' 2048 columns.
-/
module

public import proofs.«01_k».proof.Proof.Scales
public import proofs.«01_k».proof.Proof.Gen.AmaxIdeal.Frame
public import Idealize.ShloMosaic.Lib.Pipeline.Value
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)

namespace Cert.AmaxIdeal.Fold

open Cert.AmaxIdeal Cert.AmaxIdeal.Gen

section Cases
variable {F : FTy → Type} [FloatOps F]

theorem hz : (![0, 0] : Fin 2 → Nat) = fun _ => 0 := funext fun a => by fin_cases a <;> rfl

/-- At the first point the running maximum ends holding the zero block folded with the point's block. -/
theorem sout_A (c : Dev nD) (i : grid0.Coords) (a1 : Memref sig .tc .vmem S1024x2048 .bf16) (h1 : a1.IsWhole) (a2 : Memref sig .tc .smem S1x1 .f32) (h2 : a2.IsWhole) (a3 : Memref sig .tc .vmem S16x2048 .bf16) (h3 : a3.IsWhole) (hc0 : cond0_0 i) (hc1 : ¬cond0_1 i)
    (x0 : Vec F S1024x2048 .bf16) :
    sout0_A_0 c i a1 h1 a2 h2 a3 h3 hc0 hc1 x0 = k0_pay2 x0 k0_pay1 := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S16x2048) hz, View.readCov_unit_zero (S := S16x2048) _ hz]
  simp only [View.readAt_eq_ld, h1.read_unread, View.ld_unit_zero (S := S1024x2048) hz, View.ld_unit_zero (S := S16x2048) hz]

/-- At a later point it ends holding what it held folded with the point's block. -/
theorem sout_B (c : Dev nD) (i : grid0.Coords) (a1 : Memref sig .tc .vmem S1024x2048 .bf16) (h1 : a1.IsWhole) (a2 : Memref sig .tc .smem S1x1 .f32) (h2 : a2.IsWhole) (a3 : Memref sig .tc .vmem S16x2048 .bf16) (h3 : a3.IsWhole) (hc0 : ¬cond0_0 i) (hc1 : ¬cond0_1 i)
    (x0 : Vec F S1024x2048 .bf16) (xs : Vec F S16x2048 .bf16) :
    sout0_B_0 c i a1 h1 a2 h2 a3 h3 hc0 hc1 x0 xs = k0_pay2 x0 xs := by
  unfold sout0_B_0
  rw [View.read_writes_eq_canon _ _ _ (scover0_B_0 c i a1 h1 a2 h2 a3 h3 hc0 hc1 x0 xs)]
  unfold kernelRun0_B
  dsimp only
  sl_unfold_words
  rw [View.canon_unit_zero hz]
  simp only [View.readAt_eq_ld, h1.read_unread, h3.read_unread, View.ld_unit_zero (S := S1024x2048) hz, View.ld_unit_zero (S := S16x2048) hz]

/-- At the last point likewise. -/
theorem sout_C (c : Dev nD) (i : grid0.Coords) (a1 : Memref sig .tc .vmem S1024x2048 .bf16) (h1 : a1.IsWhole) (a2 : Memref sig .tc .smem S1x1 .f32) (h2 : a2.IsWhole) (a3 : Memref sig .tc .vmem S16x2048 .bf16) (h3 : a3.IsWhole) (hc0 : ¬cond0_0 i) (hc1 : cond0_1 i)
    (x0 : Vec F S1024x2048 .bf16) (xs : Vec F S16x2048 .bf16) :
    sout0_C_0 c i a1 h1 a2 h2 a3 h3 hc0 hc1 x0 xs = k0_pay2 x0 xs := by
  unfold sout0_C_0
  rw [View.read_writes_eq_canon _ _ _ (scover0_C_0 c i a1 h1 a2 h2 a3 h3 hc0 hc1 x0 xs)]
  unfold kernelRun0_C
  dsimp only
  sl_unfold_words
  rw [View.canon_unit_zero hz]
  simp only [View.readAt_eq_ld, h1.read_unread, h3.read_unread, View.ld_unit_zero (S := S1024x2048) hz, View.ld_unit_zero (S := S16x2048) hz]

/-- At the last point the result is the largest element of the running maximum. -/
theorem out_C (c : Dev nD) (i : grid0.Coords) (a1 : Memref sig .tc .vmem S1024x2048 .bf16) (h1 : a1.IsWhole) (a2 : Memref sig .tc .smem S1x1 .f32) (h2 : a2.IsWhole) (a3 : Memref sig .tc .vmem S16x2048 .bf16) (h3 : a3.IsWhole) (hc0 : ¬cond0_0 i) (hc1 : cond0_1 i)
    (x0 : Vec F S1024x2048 .bf16) (xs : Vec F S16x2048 .bf16) (j : S1x1.Idx) :
    out0_C_1 c i a1 h1 a2 h2 a3 h3 hc0 hc1 x0 xs j = k0_pay3 (k0_pay2 x0 xs) := by
  unfold out0_C_1
  rw [View.read_writes_eq_canon _ _ _ (cover0_C_1 c i a1 h1 a2 h2 a3 h3 hc0 hc1 x0 xs)]
  unfold kernelRun0_C
  dsimp only
  sl_unfold_words
  rw [View.canon_unit_zero hz, View.readCov_unit_zero (S := S16x2048) _ hz]
  simp only [View.readAt_eq_ld, h1.read_unread, h3.read_unread, View.ld_unit_zero (S := S1024x2048) hz, View.ld_unit_zero (S := S16x2048) hz]

end Cases

section Value
variable (m : (ℓ : Loc nD τ sig) → Buf (Elt Ideal) ℓ) (ρ : Dev nD → PrngReg)

/-- The rows as the region finds them. -/
abbrev X (c : Dev nD) : S16384x2048.Idx → EReal := V m c main_v0

theorem idx_in : ∀ t : Fin cfg0.N, win0_0.index t (0 : Fin 2) = t.val ∧ win0_0.index t (1 : Fin 2) = 0 :=
  (by decide +kernel : ∀ t : Fin grid0.N, _)

/-- A point's block read at an index. -/
theorem iblk0_apply (c : Dev nD) (t : Fin cfg0.N) (r : Fin 1024) (j : Fin 2048) :
    (iblk m c 0 t : S1024x2048.Idx → EReal) (ix2 r j) = X m c (ix2 (Fin.ofNat 16384 (1024 * t.val + r.val)) j) := by
  obtain ⟨e0, e1⟩ := idx_in t
  have hr := r.isLt
  have hN : t.val < 16 := lt_of_lt_of_eq t.isLt N_0
  show V m c main_v0 _ = V m c main_v0 _
  congr 1
  funext a
  apply Fin.ext
  match a with
  | ⟨0, _⟩ => show win0_0.index t 0 * 1024 + 1 * r.val = (1024 * t.val + r.val) % 16384; rw [e0]; omega
  | ⟨1, _⟩ => show win0_0.index t 1 * 2048 + 1 * j.val = j.val; rw [e1]; omega

theorem negInf16 : Ideal.ofBits .bf16 0xFF80#16 = ⊥ := by simp [Ideal.ofBits, Ideal.ieee]
theorem negInf32 : Ideal.ofBits .f32 0xFF800000#32 = ⊥ := by simp [Ideal.ofBits, Ideal.ieee]

/-- A bound of the new running maximum bounds the old one and the 64 rows' magnitudes folded into it. -/
theorem pay2_apply (x : S1024x2048.Idx → EReal) (xs : S16x2048.Idx → EReal) (a : Fin 16) (b : Fin 2048) (z : EReal) :
    k0_pay2 (F := Ideal) x xs (ix2 a b) ≤ z ↔ xs (ix2 a b) ≤ z
      ∧ ∀ k : Fin 64, max (x (ix2 ⟨k.val * 16 + a.val, by omega⟩ b)) (-x (ix2 ⟨k.val * 16 + a.val, by omega⟩ b)) ≤ z := by
  have e : k0_pay2 (F := Ideal) x xs (ix2 a b) = max (xs (ix2 a b)) (Finset.univ.fold max (Ideal.ofBits .bf16 0xFF80#16) fun k : Fin 64 =>
      max (x (ix2 ⟨k.val * 16 + a.val, by omega⟩ b)) (-x (ix2 ⟨k.val * 16 + a.val, by omega⟩ b))) := by
    pointwise [k0_pay2]
    rfl
  rw [e, max_le_iff, Finset.fold_max_le, negInf16]
  simp

/-- A bound of the result bounds every element of the running maximum. -/
theorem pay3_apply (xs : S16x2048.Idx → EReal) (z : EReal) :
    k0_pay3 (F := Ideal) xs ≤ z ↔ ∀ (a : Fin 16) (b : Fin 2048), xs (ix2 a b) ≤ z := by
  have e : k0_pay3 (F := Ideal) xs = Finset.univ.fold max (Ideal.ofBits .f32 0xFF800000#32) fun x : Fin 16 × Fin 2048 => xs (ix2 x.1 x.2) := by
    pointwise [k0_pay3]
  rw [e, Finset.fold_max_le, negInf32]
  simp

/-- A bound of the running maximum after point `n` bounds zero and the magnitudes of the rows up to that point's. -/
theorem acc_apply (c : Dev nD) : ∀ (n : ℕ) (h : n < cfg0.N) (a : Fin 16) (b : Fin 2048) (z : EReal),
    (outsAt0 m c n h).2 (ix2 a b) ≤ z ↔ 0 ≤ z ∧ ∀ k < 64 * (n + 1),
      max (X m c (ix2 (Fin.ofNat 16384 (k * 16 + a.val)) b)) (-X m c (ix2 (Fin.ofNat 16384 (k * 16 + a.val)) b)) ≤ z := by
  have step : ∀ (n : ℕ) (h : n < cfg0.N) (xs : S16x2048.Idx → EReal) (a : Fin 16) (b : Fin 2048) (z : EReal),
      (xs (ix2 a b) ≤ z ↔ 0 ≤ z ∧ ∀ k < 64 * n,
        max (X m c (ix2 (Fin.ofNat 16384 (k * 16 + a.val)) b)) (-X m c (ix2 (Fin.ofNat 16384 (k * 16 + a.val)) b)) ≤ z) →
      (k0_pay2 (F := Ideal) (iblk m c 0 ⟨n, h⟩) xs (ix2 a b) ≤ z ↔ 0 ≤ z ∧ ∀ k < 64 * (n + 1),
        max (X m c (ix2 (Fin.ofNat 16384 (k * 16 + a.val)) b)) (-X m c (ix2 (Fin.ofNat 16384 (k * 16 + a.val)) b)) ≤ z) := by
    intro n h xs a b z hxs
    have ha := a.isLt
    rw [pay2_apply, hxs, and_assoc]
    refine and_congr_right fun _ => ⟨fun ⟨h0, h1⟩ k hk => ?_, fun h0 => ⟨fun k hk => h0 k (by omega), fun k => ?_⟩⟩
    · by_cases hk' : k < 64 * n
      · exact h0 k hk'
      · have e := h1 ⟨k - 64 * n, by omega⟩
        rw [iblk0_apply] at e
        have e' : 1024 * n + ((k - 64 * n) * 16 + a.val) = k * 16 + a.val := by omega
        dsimp only at e
        rw [e'] at e
        exact e
    · have e := h0 (64 * n + k.val) (by omega)
      rw [iblk0_apply]
      dsimp only
      have e' : 1024 * n + (k.val * 16 + a.val) = (64 * n + k.val) * 16 + a.val := by omega
      rw [e']
      exact e
  intro n
  induction n with
  | zero =>
    intro h a b z
    rw [outsAt0_A m c ⟨0, h⟩ (by rfl) (by dsimp only; omega)]
    dsimp only
    rw [sout_A]
    refine step 0 h _ a b z ?_
    have e : (k0_pay1 (F := Ideal)) (ix2 a b) = 0 := by pointwise [k0_pay1]
    rw [e]
    simp
  | succ n ih =>
    intro h a b z
    have hN : n + 1 < 16 := lt_of_lt_of_eq h N_0
    by_cases h1 : (n + 1) % 16 = 15
    · rw [outsAt0_C m c ⟨n + 1, h⟩ (by dsimp only; omega) h1]
      dsimp only
      rw [sout_C]
      exact step (n + 1) h _ a b z (ih _ a b z)
    · rw [outsAt0_B m c ⟨n + 1, h⟩ (by dsimp only; omega) h1]
      dsimp only
      rw [sout_B]
      exact step (n + 1) h _ a b z (ih _ a b z)

/-- The last point. -/
abbrev tl : Fin cfg0.N := ⟨15, lt_of_lt_of_eq (by decide) N_0.symm⟩

/-- What the one-element array ends holding. -/
abbrev A1 (c : Dev nD) : S1x1.Idx → EReal := (dats m 0 c).arrAt 1 cfg0.N

theorem flush1 : ∀ t : Fin cfg0.N, (cfg0.win 1).flush t = true → t = tl :=
  (by decide +kernel : ∀ t : Fin grid0.N, (win0_1).flush t = true → t = ⟨15, by decide⟩)
theorem flush1' : (cfg0.win 1).flush tl = true := by decide +kernel

theorem idx1_eq (j j' : S1x1.Idx) : j = j' := funext fun a => Fin.ext (by
  match a with
  | ⟨0, _⟩ =>
    have h : (j 0).val < 1 := (j 0).isLt
    have h' : (j' 0).val < 1 := (j' 0).isLt
    show (j 0).val = (j' 0).val
    omega
  | ⟨1, _⟩ =>
    have h : (j 1).val < 1 := (j 1).isLt
    have h' : (j' 1).val < 1 := (j' 1).isLt
    show (j 1).val = (j' 1).val
    omega)

/-- A bound of the result bounds zero and every magnitude. -/
theorem A1_le (c : Dev nD) (i : S1x1.Idx) (z : EReal) :
    A1 m c i ≤ z ↔ 0 ≤ z ∧ ∀ (r : Fin 16384) (b : Fin 2048), max (X m c (ix2 r b)) (-X m c (ix2 r b)) ≤ z := by
  have hA : A1 m c = (outsAt0 m c 15 tl.isLt).1 :=
    (dats m 0 c).arrAt_eq_of_cover 1 _ (fun t hf => by
      obtain rfl := flush1 t hf
      show (cfg0.win 1).cut (grid0.coords tl) ((dats m 0 c).after 1 tl) = _
      rw [after0_1]
      funext j
      show (outsAt0 m c 15 tl.isLt).1 _ = (outsAt0 m c 15 tl.isLt).1 _
      exact congrArg _ (idx1_eq _ _)) fun j => ⟨tl, flush1', by
        have := ((cfg0.win 1).blk tl).view.emb_mem_set (ix2 0 0)
        rwa [idx1_eq j (((cfg0.win 1).blk tl).view.emb (ix2 0 0))]⟩
  rw [hA]
  have hs : ∀ a b, (outsAt0 m c 15 tl.isLt).2 (ix2 a b) ≤ z ↔ _ := fun a b => acc_apply m c 15 tl.isLt a b z
  rw [outsAt0_C m c tl (by decide) (by decide)] at hs ⊢
  dsimp only at hs ⊢
  rw [out_C, pay3_apply]
  rw [sout_C] at hs
  simp only [hs]
  constructor
  · intro h
    refine ⟨(h 0 0).1, fun r b => ?_⟩
    have e := (h (Fin.ofNat 16 r.val) b).2 (r.val / 16) (by have := r.isLt; omega)
    have hr : Fin.ofNat 16384 (r.val / 16 * 16 + (Fin.ofNat 16 r.val).val) = r := by
      have := r.isLt
      apply Fin.ext
      show (r.val / 16 * 16 + r.val % 16) % 16384 = r.val
      omega
    rwa [hr] at e
  · intro h a b
    exact ⟨h.1, fun k _ => h.2 _ b⟩

/-- The region's result as the later host operations find it. -/
abbrev Vx (c : Dev nD) : Valuation τ sig (Elt Ideal) := Pipeline.withArrays cfg0.spec c (V0 m c) fun w => (dats m 0 c).arrAt w cfg0.N

theorem Vx_v1 (c : Dev nD) : Vx m c (Proc.devRef .tc main_v1) = A1 m c := Pipeline.withArrays_arr cfg0.spec (by decide) c (V0 m c) _ 1

/-- A one-element array's scalar. -/
theorem scalar (x : FVec Ideal S1x1 .f32) : (fun i => shapeCast S_ x shapeCasts_S1x1_S_ i : FVec Ideal S_ .f32) = fun _ => x (ix2 0 0) := by
  funext i
  exact congrArg x (idx1_eq _ _)

/-- The largest magnitude as a scalar. -/
def top (c : Dev nD) : FVec Ideal S_ .f32 := fun _ => A1 m c (ix2 0 0)

theorem tail_scale (c : Dev nD) : Pipeline.afterTail₀ cfgs (dats m) 0 (V0 m) [hostOps1, hostOps1_1, hostOps1_2] c main_v19 = Scales.scale (top m c) := by
  unfold Pipeline.afterTail₀
  show StableHlo.after (List.flatten [hostOps1, hostOps1_1, hostOps1_2]) (Vx m c) (Proc.devRef .tc main_v19) = _
  have e : (fun i => shapeCast main_v2.ty.shape (Vx m c (Proc.devRef .tc main_v1)) shapeCasts_S1x1_S_ i : FVec Ideal S_ .f32) = top m c := by
    rw [Vx_v1]
    exact scalar _
  generalize Vx m c = W at e ⊢
  generalize top m c = x at e ⊢
  simp only [hostOps1, hostOps1_1, hostOps1_2, List.flatten_cons, List.flatten_nil, List.append_nil, List.cons_append, List.nil_append]
  after_results_simp
  rw [← e]
  rfl

theorem tail_inv (c : Dev nD) : Pipeline.afterTail₀ cfgs (dats m) 0 (V0 m) [hostOps1, hostOps1_1, hostOps1_2] c main_v23 = Scales.inv (top m c) := by
  unfold Pipeline.afterTail₀
  show StableHlo.after (List.flatten [hostOps1, hostOps1_1, hostOps1_2]) (Vx m c) (Proc.devRef .tc main_v23) = _
  have e : (fun i => shapeCast main_v2.ty.shape (Vx m c (Proc.devRef .tc main_v1)) shapeCasts_S1x1_S_ i : FVec Ideal S_ .f32) = top m c := by
    rw [Vx_v1]
    exact scalar _
  generalize Vx m c = W at e ⊢
  generalize top m c = x at e ⊢
  simp only [hostOps1, hostOps1_1, hostOps1_2, List.flatten_cons, List.flatten_nil, List.append_nil, List.cons_append, List.nil_append]
  after_results_simp
  rw [← e]
  rfl

/-- THE RUN: the two results end as the scale and the inverse scale of the largest magnitude, the argument unchanged. -/
theorem run (ρ : Dev nD → PrngReg) : θ_run defs (onTc (τ := τ) (main (F := Ideal))) ⟨m, fun _ => 0, ρ⟩ fun r => ∀ c : Dev nD,
      r.2.mem ((c.tc : Thread nD τ).loc main_v19) = Scales.scale (top m c)
      ∧ r.2.mem ((c.tc : Thread nD τ).loc main_v23) = Scales.inv (top m c)
      ∧ r.2.mem ((c.tc : Thread nD τ).loc main_arg0) = m ((c.tc : Thread nD τ).loc main_arg0) :=
  (θ_run defs _ _).mono (fun r h c => ⟨
      ((h c).2 main_v19 (Pipeline.mem_restRefs_of main_v19 (by decide) (by decide))).trans (tail_scale m c),
      ((h c).2 main_v23 (Pipeline.mem_restRefs_of main_v23 (by decide) (by decide))).trans (tail_inv m c),
      ((h c).2 main_arg0 (Pipeline.mem_restRefs_of main_arg0 (by decide) (by decide))).trans (W_main_arg0 m (dats m) c)⟩)
    (run_main m ρ)

end Value

end Cert.AmaxIdeal.Fold

end
-- ==== Proof.AmaxRef.lean ====
/-
  The value of the reference `ref_amax` (the largest magnitude is a least upper bound of all the magnitudes), and the
  claim that the kernel computes the same two scales.
-/
module

public import proofs.«01_k».proof.Defs
public import proofs.«01_k».proof.Proof.AmaxKernel
public import proofs.«01_k».proof.Proof.Gen.AmaxRefIdeal.Run

@[expose] public section

noncomputable section

open Idealize.ShloMosaic Idealize.ShloMosaic.TcCoe Idealize.SL.Sem

namespace Cert.AmaxRefIdeal.Whole

open Cert.AmaxRefIdeal Cert.AmaxRefIdeal.Gen

/-- The largest magnitude of an array. -/
def top (x : FVec Ideal S16x1024x2048 .bf16) : FVec Ideal S_ .f32 :=
  Host.reduce FloatOps.maximumf (Host.absf (extf .f32 x bitsLt_bf16_f32)) (constant S_ .f32 0xFF800000#32) reducesTo_S16x1024x2048_S_d0_1_2 h_S_

/-- A bound of it bounds every magnitude. -/
theorem top_le (x : S16x1024x2048.Idx → EReal) (i : S_.Idx) (z : EReal) :
    top x i ≤ z ↔ ∀ (a : Fin 16) (b : Fin 1024) (d : Fin 2048), max (x (ix3 a b d)) (-x (ix3 a b d)) ≤ z := by
  have e : top x i = Finset.univ.fold max (Ideal.ofBits .f32 0xFF800000#32) fun k : Fin 16 × Fin 1024 × Fin 2048 => max (x (ix3 k.1 k.2.1 k.2.2)) (-x (ix3 k.1 k.2.1 k.2.2)) := by
    pointwise [top]
    rfl
  rw [e, Finset.fold_max_le, AmaxIdeal.Fold.negInf32]
  simp

/-- The two results as the scale and the inverse scale of the largest magnitude. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = Scales.scale (top (m ((c.tc : Thread nD τ).loc main_arg0)))
      ∧ r.2.mem ((c.tc : Thread nD τ).loc main_v23) = Scales.inv (top (m ((c.tc : Thread nD τ).loc main_arg0)))
      ∧ r.2.mem ((c.tc : Thread nD τ).loc main_arg0) = m ((c.tc : Thread nD τ).loc main_arg0) :=
  Value.run m ρ

end Cert.AmaxRefIdeal.Whole

namespace Cert

/-- The rows of the flattened array. -/
theorem flat_apply (x : AmaxIdeal.S16x1024x2048.Idx → EReal) (r : Fin 16384) (d : Fin 2048) :
    (shapeCast AmaxIdeal.S16384x2048 (x : FVec Ideal AmaxIdeal.S16x1024x2048 .bf16) AmaxIdeal.Gen.shapeCasts_S16x1024x2048_S16384x2048 : AmaxIdeal.S16384x2048.Idx → EReal) (ix2 r d)
      = x (ix3 (Fin.ofNat 16 (r.val / 1024)) (Fin.ofNat 1024 r.val) d) := by
  have hr := r.isLt
  pointwise
  have e : (⟨r.val / 1024, by omega⟩ : Fin 16) = Fin.ofNat 16 (r.val / 1024) := Fin.ext (by show r.val / 1024 = r.val / 1024 % 16; omega)
  exact congrArg (fun k => x (ix3 k _ d)) e

/-- A magnitude is not negative. -/
theorem mag_nonneg (x : EReal) : 0 ≤ max x (-x) := by
  rcases le_total 0 x with h | h
  · exact le_max_of_le_left h
  · exact le_max_of_le_right (by simpa using EReal.neg_le_neg_iff.mpr h)

/-- The kernel's least upper bound over the rows is the reference's over the batches. -/
theorem top_eq (m : (ℓ : Loc AmaxIdeal.nD AmaxIdeal.τ AmaxIdeal.sig) → Buf (Elt Ideal) ℓ) (c : Dev AmaxIdeal.nD) :
    AmaxRefIdeal.Whole.top (m ((c.tc : Thread AmaxIdeal.nD AmaxIdeal.τ).loc AmaxIdeal.main_arg0)) = AmaxIdeal.Fold.top m c := by
  funext i
  refine eq_of_forall_ge_iff fun z => ?_
  have hV : AmaxIdeal.Fold.X m c = shapeCast AmaxIdeal.S16384x2048 (m ((c.tc : Thread AmaxIdeal.nD AmaxIdeal.τ).loc AmaxIdeal.main_arg0)) AmaxIdeal.Gen.shapeCasts_S16x1024x2048_S16384x2048 := by
    unfold AmaxIdeal.Fold.X
    entry_read
    rfl
  have hX : ∀ (r : Fin 16384) (d : Fin 2048), AmaxIdeal.Fold.X m c (ix2 r d)
      = (m ((c.tc : Thread AmaxIdeal.nD AmaxIdeal.τ).loc AmaxIdeal.main_arg0) : AmaxIdeal.S16x1024x2048.Idx → EReal) (ix3 (Fin.ofNat 16 (r.val / 1024)) (Fin.ofNat 1024 r.val) d) := by
    intro r d
    have hr := r.isLt
    rw [hV]
    exact flat_apply _ r d
  rw [AmaxRefIdeal.Whole.top_le]
  unfold AmaxIdeal.Fold.top
  rw [AmaxIdeal.Fold.A1_le]
  simp only [hX]
  constructor
  · intro h
    exact ⟨(mag_nonneg _).trans (h 0 0 0), fun r b => h _ _ _⟩
  · rintro ⟨_, h⟩ a b d
    have ha := a.isLt
    have hb := b.isLt
    have e := h ⟨1024 * a.val + b.val, by omega⟩ d
    have e1 : Fin.ofNat 16 ((1024 * a.val + b.val) / 1024) = a := Fin.ext (by show (1024 * a.val + b.val) / 1024 % 16 = a.val; omega)
    have e2 : Fin.ofNat 1024 (1024 * a.val + b.val) = b := Fin.ext (by show (1024 * a.val + b.val) % 1024 = b.val; omega)
    dsimp only at e
    rwa [e1, e2] at e

/-- The reference terminates with its argument unchanged; it has no semaphore. -/
theorem frame_amaxref : quiescent_AmaxRefIdeal (hAmaxRefIdeal := AmaxRefIdeal.Gen.facts) := fun m ρ _ =>
  (θ_run AmaxRefIdeal.defs _ _).mono (fun r h => ⟨fun c => (h c).2.2, sem_eq_zero_of_no_sems (by decide) r.2⟩)
    (AmaxRefIdeal.Value.run m ρ)

/-- The largest-magnitude kernel and the reference end with the same scale and the same inverse scale. -/
theorem algebraic_amax : algebraic_AmaxIdeal_AmaxRefIdeal (hAmaxIdeal := AmaxIdeal.Gen.facts) (hAmaxRefIdeal := AmaxRefIdeal.Gen.facts) := by
  intro m g m' g' _ hagree
  refine ⟨fun c => Scales.scale (AmaxIdeal.Fold.top m c), fun c => Scales.inv (AmaxIdeal.Fold.top m c), AmaxIdeal.Fold.run m g,
    (θ_run _ _ _).mono (fun r h c => ⟨(h c).1.trans ?_, (h c).2.1.trans ?_, (h c).2.2⟩) (AmaxRefIdeal.Whole.run m' g')⟩
  · rw [hagree c, top_eq]
  · rw [hagree c, top_eq]

end Cert

end
-- ==== Proof.DaKernel.lean ====
/-
  The value of the kernel `da`.
-/
module

public import proofs.«01_k».proof.Proof.Scales
public import proofs.«01_k».proof.Proof.Gen.DaIdeal.Frame
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)

namespace Cert.DaIdeal.Fold

open Cert.DaIdeal Cert.DaIdeal.Gen

section Cases
variable {F : FTy → Type} [FloatOps F]

theorem hz : (![0, 0] : Fin 2 → Nat) = fun _ => 0 := funext fun a => by fin_cases a <;> rfl

theorem hz1 : (![0] : Fin 1 → Nat) = fun _ => 0 := funext fun a => by fin_cases a <;> rfl

/-- A read of a whole buffer after stores of it gives the last one's payload. -/
theorem readCov_cons {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Columns `512 k` to `512 k + 511`. -/
def cols {e : EltTy} (k : Fin 11) (x : Vec F S256x5632 e) : Vec F S256x512 e :=
  fun j => x (ix2 (j 0) ⟨512 * k.val + (j 1).val, by have := k.isLt; have : (j 1).val < 512 := (j 1).isLt; omega⟩)

/-- Rows `512 k` to `512 k + 511`. -/
def rows {e : EltTy} (k : Fin 11) (x : Vec F S5632x2048 e) : Vec F S512x2048 e :=
  fun j => x (ix2 ⟨512 * k.val + (j 0).val, by have := k.isLt; have : (j 0).val < 512 := (j 0).isLt; omega⟩ (j 1))

theorem ld_cols {e : EltTy} (k : Fin 11) (o : ℕ) (ho : o = 512 * k.val) (x : Vec F S256x5632 e) (h) :
    View.ld x (Rect.unit (s := S256x5632) ![0, o] ![256, 512] h) = cols k x := by
  subst ho
  funext j
  refine congrArg x (funext fun a => Fin.ext ?_)
  match a with
  | ⟨0, _⟩ => show 0 + 1 * (j 0).val = (j 0).val; omega
  | ⟨1, _⟩ => show 512 * k.val + 1 * (j 1).val = 512 * k.val + (j 1).val; omega

theorem ld_rows {e : EltTy} (k : Fin 11) (o : ℕ) (ho : o = 512 * k.val) (x : Vec F S5632x2048 e) (h) :
    View.ld x (Rect.unit (s := S5632x2048) ![o, 0] ![512, 2048] h) = rows k x := by
  subst ho
  funext j
  refine congrArg x (funext fun a => Fin.ext ?_)
  match a with
  | ⟨0, _⟩ => show 512 * k.val + 1 * (j 0).val = 512 * k.val + (j 0).val; omega
  | ⟨1, _⟩ => show 0 + 1 * (j 1).val = (j 1).val; omega

theorem ld_s0 (x : Vec F S2 .f32) (h) (j) : View.ld x (Rect.unit (s := S2) ![0] ![1] h) j = x (ix1 0) := by
  refine congrArg x (funext fun a => Fin.ext ?_)
  match a with
  | ⟨0, _⟩ => show 0 + 1 * (j 0).val = 0; have : (j 0).val < 1 := (j 0).isLt; omega
theorem ld_s1 (x : Vec F S2 .f32) (h) (j) : View.ld x (Rect.unit (s := S2) ![1] ![1] h) j = x (ix1 1) := by
  refine congrArg x (funext fun a => Fin.ext ?_)
  match a with
  | ⟨0, _⟩ => show 1 + 1 * (j 0).val = 1; have : (j 0).val < 1 := (j 0).isLt; omega

/-- The running maximum after a chunk. -/
def upd (C : Vec F S256x2048 .fp8e5m2) (s : F .f32) (w : Vec F S512x2048 .fp8e4m3) (g u : Vec F S256x512 .bf16) (xs : Vec F S8x512 .f32) : Vec F S8x512 .f32 :=
  k0_pay23 (k0_pay22 C s w) g u xs

section Chunks
variable (C : Vec F S256x2048 .fp8e5m2) (s : F .f32) (w : Vec F S512x2048 .fp8e4m3) (g u : Vec F S256x512 .bf16) (xs : Vec F S8x512 .f32)

theorem pay5_eq : k0_pay5 C = C := shapeCast_self _ _
/-- Each chunk's lines are one formula. -/
theorem da0 : k0_pay6 C s w = k0_pay22 C s w := by unfold k0_pay6; rw [pay5_eq]; rfl
theorem da1 : k0_pay12 C s w = k0_pay22 C s w := rfl
theorem da2 : k0_pay18 C s w = k0_pay22 C s w := rfl
theorem da3 : k0_pay20 C s w = k0_pay22 C s w := rfl
theorem da5 : k0_pay24 C s w = k0_pay22 C s w := rfl
theorem da6 : k0_pay29 C s w = k0_pay22 C s w := rfl
theorem da7 : k0_pay34 C s w = k0_pay22 C s w := rfl
theorem da8 : k0_pay37 C s w = k0_pay22 C s w := rfl
theorem da9 : k0_pay41 (k0_pay39 C w) (k0_pay40 s) = k0_pay22 C s w := rfl
theorem da10 : k0_pay43 C s w = k0_pay22 C s w := rfl
theorem up0 : k0_pay11 (k0_pay22 C s w) (k0_pay7 g) (k0_pay8 u) (k0_pay9 g) (k0_pay10 g) (FloatOps.ofBits FTy.f32 1065353216#32) xs = upd C s w g u xs := rfl
theorem up1 : k0_pay17 xs (k0_pay15 C s w g) (k0_pay16 g u) = upd C s w g u xs := rfl
theorem up2 : k0_pay19 C s w g u xs = upd C s w g u xs := rfl
theorem up3 : k0_pay21 C s w g u xs = upd C s w g u xs := rfl
theorem up4 : k0_pay23 (k0_pay22 C s w) g u xs = upd C s w g u xs := rfl
theorem up5 : k0_pay28 (k0_pay22 C s w) (k0_pay25 g) (k0_pay26 u) (k0_pay27 g) xs = upd C s w g u xs := rfl
theorem up6 : k0_pay33 (k0_pay22 C s w) (k0_pay30 g) (k0_pay31 g) (k0_pay32 g u) xs = upd C s w g u xs := rfl
theorem up7 : k0_pay36 (k0_pay35 C s w g u xs) = upd C s w g u xs := rfl
theorem up8 : k0_pay38 C s w g u xs = upd C s w g u xs := rfl
theorem up9 : k0_pay42 (k0_pay39 C w) (k0_pay40 s) g u xs = upd C s w g u xs := rfl
theorem up10 : k0_pay1 (k0_pay22 C s w) (k0_pay44 g) u xs = upd C s w g u xs := rfl

end Chunks

/-- The running maximum after all eleven chunks. -/
def updAll (C : Vec F S256x2048 .fp8e5m2) (s : F .f32) (w : Vec F S5632x2048 .fp8e4m3) (g u : Vec F S256x5632 .bf16) (xs : Vec F S8x512 .f32) : Vec F S8x512 .f32 :=
  (List.finRange 11).foldl (fun acc k => upd C s (rows k w) (cols k g) (cols k u) acc) xs

/-- The block of gradients: at column `q` the formula of chunk `q / 512`. -/
def daBlk (C : Vec F S256x2048 .fp8e5m2) (s : F .f32) (w : Vec F S5632x2048 .fp8e4m3) : Vec F S256x5632 .f32 :=
  fun j => k0_pay22 C s (rows ⟨(j 1).val / 512, by have : (j 1).val < 5632 := (j 1).isLt; omega⟩ w) (ix2 (j 0) ⟨(j 1).val % 512, by omega⟩)

theorem tile (k : Fin 11) (o : ℕ) (ho : o = 512 * k.val) (C : Vec F S256x2048 .fp8e5m2) (s : F .f32) (w : Vec F S5632x2048 .fp8e4m3) (h) (x : S256x512.Idx) :
    k0_pay22 C s (rows k w) x = daBlk C s w ((Rect.unit (s := S256x5632) ![0, o] ![256, 512] h).emb x) := by
  subst ho
  have hx : (x 1).val < 512 := (x 1).isLt
  have e : ∀ (q : Fin 11) (y : S256x512.Idx), q = k → y = x → k0_pay22 C s (rows k w) x = k0_pay22 C s (rows q w) y := by rintro _ _ rfl rfl; rfl
  refine e _ _ (Fin.ext ?_) (funext fun a => Fin.ext ?_)
  · show (512 * k.val + 1 * (x 1).val) / 512 = k.val
    omega
  · match a with
    | ⟨0, _⟩ => show 0 + 1 * (x 0).val = (x 0).val; omega
    | ⟨1, _⟩ => show (512 * k.val + 1 * (x 1).val) % 512 = (x 1).val; omega

/-- Stores that are blocks of one array and cover it leave that array. -/
theorem canon_eq {Val : EltTy → Type} [∀ e, Nonempty (Val e)] {S : Shape} {e : EltTy} (G : S.Idx → Val e) (L : List (View.Piece Val S e))
    (hc : ∀ y, ∃ p ∈ L, y ∈ p.1.set) (h : View.PiecesOf G L) : View.canon L = G := by
  funext y
  have e := View.canon_append_of_piecesOf G [] L h y (hc y)
  rwa [List.append_nil] at e

/-- The running maximum a point leaves (case A). -/
theorem sout_A (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) :
    sout0_A_0 c i a1 h1 a2 h2 a3 h3 a4 h4 a5 h5 a6 h6 a7 h7 a8 h8 a9 h9 hc0 hc1 x0 x1 x2 x3 x4 = updAll (k0_pay4 x1 (x0 (ix1 0))) (x0 (ix1 1)) x4 x2 x3 k0_pay3 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S8x512) hz]
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  rfl

/-- The codes a point leaves (case A). -/
theorem codes_A (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) :
    out0_A_6 c i a1 h1 a2 h2 a3 h3 a4 h4 a5 h5 a6 h6 a7 h7 a8 h8 a9 h9 hc0 hc1 x0 x1 x2 x3 x4 = k0_pay4 x1 (x0 (ix1 0)) := by
  unfold out0_A_6
  rw [View.read_writes_eq_canon _ _ _ (cover0_A_6 c i a1 h1 a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h1.read_unread, h2.read_unread, View.ld_unit_zero (S := S256x2048) hz]
  rw [show View.ld x0 (Rect.unit ![0] ![1] inb_S2_S1_0) (Shape.Idx.first (by decide)) = x0 (ix1 0) from ld_s0 _ _ _]

/-- The gradients a point leaves (case A). -/
theorem da_A (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) :
    out0_A_5 c i a1 h1 a2 h2 a3 h3 a4 h4 a5 h5 a6 h6 a7 h7 a8 h8 a9 h9 hc0 hc1 x0 x1 x2 x3 x4 = daBlk (k0_pay4 x1 (x0 (ix1 0))) (x0 (ix1 1)) x4 := by
  unfold out0_A_5
  rw [View.read_writes_eq_canon _ _ _ (cover0_A_5 c i a1 h1 a2 h2 a3 h3 a4 h4 a5 h5 a6 h6 a7 h7 a8 h8 a9 h9 hc0 hc1 x0 x1 x2 x3 x4)]
  refine canon_eq _ _ (cover0_A_5 c i a1 h1 a2 h2 a3 h3 a4 h4 a5 h5 a6 h6 a7 h7 a8 h8 a9 h9 hc0 hc1 x0 x1 x2 x3 x4) ?_
  unfold kernelRun0_A
  dsimp only
  sl_unfold_words
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  exact ⟨tile 10 5120 rfl _ _ _ inb_S256x5632_S256x512_0_5120, tile 9 4608 rfl _ _ _ inb_S256x5632_S256x512_0_4608, tile 8 4096 rfl _ _ _ inb_S256x5632_S256x512_0_4096, tile 7 3584 rfl _ _ _ inb_S256x5632_S256x512_0_3584, tile 6 3072 rfl _ _ _ inb_S256x5632_S256x512_0_3072, tile 5 2560 rfl _ _ _ inb_S256x5632_S256x512_0_2560, tile 4 2048 rfl _ _ _ inb_S256x5632_S256x512_0_2048, tile 3 1536 rfl _ _ _ inb_S256x5632_S256x512_0_1536, tile 2 1024 rfl _ _ _ inb_S256x5632_S256x512_0_1024, tile 1 512 rfl _ _ _ inb_S256x5632_S256x512_0_512, tile 0 0 rfl _ _ _ inb_S256x5632_S256x512_0_0, trivial⟩

/-- The running maximum a point leaves (case B). -/
theorem sout_B (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    sout0_B_0 c i a1 h1 a2 h2 a3 h3 a4 h4 a5 h5 a6 h6 a7 h7 a8 h8 a9 h9 hc0 hc1 x0 x1 x2 x3 x4 xs = updAll (k0_pay4 x1 (x0 (ix1 0))) (x0 (ix1 1)) x4 x2 x3 xs := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 xs)]
  unfold kernelRun0_B
  dsimp only
  sl_unfold_words
  rw [View.canon_cons_unit_zero (S := S8x512) hz]
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  rfl

/-- The codes a point leaves (case B). -/
theorem codes_B (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    out0_B_6 c i a1 h1 a2 h2 a3 h3 a4 h4 a5 h5 a6 h6 a7 h7 a8 h8 a9 h9 hc0 hc1 x0 x1 x2 x3 x4 xs = k0_pay4 x1 (x0 (ix1 0)) := by
  unfold out0_B_6
  rw [View.read_writes_eq_canon _ _ _ (cover0_B_6 c i a1 h1 a2 h2 a3 h3 a4 h4 a5 h5 a6 h6 a7 h7 a8 h8 a9 h9 hc0 hc1 x0 x1 x2 x3 x4 xs)]
  unfold kernelRun0_B
  dsimp only
  sl_unfold_words
  rw [View.canon_unit_zero hz]
  simp only [View.readAt_eq_ld, h1.read_unread, h2.read_unread, View.ld_unit_zero (S := S256x2048) hz]
  rw [show View.ld x0 (Rect.unit ![0] ![1] inb_S2_S1_0) (Shape.Idx.first (by decide)) = x0 (ix1 0) from ld_s0 _ _ _]

/-- The gradients a point leaves (case B). -/
theorem da_B (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : ¬cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    out0_B_5 c i a1 h1 a2 h2 a3 h3 a4 h4 a5 h5 a6 h6 a7 h7 a8 h8 a9 h9 hc0 hc1 x0 x1 x2 x3 x4 xs = daBlk (k0_pay4 x1 (x0 (ix1 0))) (x0 (ix1 1)) x4 := by
  unfold out0_B_5
  rw [View.read_writes_eq_canon _ _ _ (cover0_B_5 c i a1 h1 a2 h2 a3 h3 a4 h4 a5 h5 a6 h6 a7 h7 a8 h8 a9 h9 hc0 hc1 x0 x1 x2 x3 x4 xs)]
  refine canon_eq _ _ (cover0_B_5 c i a1 h1 a2 h2 a3 h3 a4 h4 a5 h5 a6 h6 a7 h7 a8 h8 a9 h9 hc0 hc1 x0 x1 x2 x3 x4 xs) ?_
  unfold kernelRun0_B
  dsimp only
  sl_unfold_words
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  exact ⟨tile 10 5120 rfl _ _ _ inb_S256x5632_S256x512_0_5120, tile 9 4608 rfl _ _ _ inb_S256x5632_S256x512_0_4608, tile 8 4096 rfl _ _ _ inb_S256x5632_S256x512_0_4096, tile 7 3584 rfl _ _ _ inb_S256x5632_S256x512_0_3584, tile 6 3072 rfl _ _ _ inb_S256x5632_S256x512_0_3072, tile 5 2560 rfl _ _ _ inb_S256x5632_S256x512_0_2560, tile 4 2048 rfl _ _ _ inb_S256x5632_S256x512_0_2048, tile 3 1536 rfl _ _ _ inb_S256x5632_S256x512_0_1536, tile 2 1024 rfl _ _ _ inb_S256x5632_S256x512_0_1024, tile 1 512 rfl _ _ _ inb_S256x5632_S256x512_0_512, tile 0 0 rfl _ _ _ inb_S256x5632_S256x512_0_0, trivial⟩

/-- The running maximum a point leaves (case C). -/
theorem sout_C (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    sout0_C_0 c i a1 h1 a2 h2 a3 h3 a4 h4 a5 h5 a6 h6 a7 h7 a8 h8 a9 h9 hc0 hc1 x0 x1 x2 x3 x4 xs = updAll (k0_pay4 x1 (x0 (ix1 0))) (x0 (ix1 1)) x4 x2 x3 xs := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 xs)]
  unfold kernelRun0_C
  dsimp only
  sl_unfold_words
  rw [View.canon_cons_unit_zero (S := S8x512) hz]
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  rfl

/-- The codes a point leaves (case C). -/
theorem codes_C (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    out0_C_6 c i a1 h1 a2 h2 a3 h3 a4 h4 a5 h5 a6 h6 a7 h7 a8 h8 a9 h9 hc0 hc1 x0 x1 x2 x3 x4 xs = k0_pay4 x1 (x0 (ix1 0)) := by
  unfold out0_C_6
  rw [View.read_writes_eq_canon _ _ _ (cover0_C_6 c i a1 h1 a2 h2 a3 h3 a4 h4 a5 h5 a6 h6 a7 h7 a8 h8 a9 h9 hc0 hc1 x0 x1 x2 x3 x4 xs)]
  unfold kernelRun0_C
  dsimp only
  sl_unfold_words
  rw [View.canon_unit_zero hz]
  simp only [View.readAt_eq_ld, h1.read_unread, h2.read_unread, View.ld_unit_zero (S := S256x2048) hz]
  rw [show View.ld x0 (Rect.unit ![0] ![1] inb_S2_S1_0) (Shape.Idx.first (by decide)) = x0 (ix1 0) from ld_s0 _ _ _]

/-- The gradients a point leaves (case C). -/
theorem da_C (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) :
    out0_C_5 c i a1 h1 a2 h2 a3 h3 a4 h4 a5 h5 a6 h6 a7 h7 a8 h8 a9 h9 hc0 hc1 x0 x1 x2 x3 x4 xs = daBlk (k0_pay4 x1 (x0 (ix1 0))) (x0 (ix1 1)) x4 := by
  unfold out0_C_5
  rw [View.read_writes_eq_canon _ _ _ (cover0_C_5 c i a1 h1 a2 h2 a3 h3 a4 h4 a5 h5 a6 h6 a7 h7 a8 h8 a9 h9 hc0 hc1 x0 x1 x2 x3 x4 xs)]
  refine canon_eq _ _ (cover0_C_5 c i a1 h1 a2 h2 a3 h3 a4 h4 a5 h5 a6 h6 a7 h7 a8 h8 a9 h9 hc0 hc1 x0 x1 x2 x3 x4 xs) ?_
  unfold kernelRun0_C
  dsimp only
  sl_unfold_words
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  exact ⟨tile 10 5120 rfl _ _ _ inb_S256x5632_S256x512_0_5120, tile 9 4608 rfl _ _ _ inb_S256x5632_S256x512_0_4608, tile 8 4096 rfl _ _ _ inb_S256x5632_S256x512_0_4096, tile 7 3584 rfl _ _ _ inb_S256x5632_S256x512_0_3584, tile 6 3072 rfl _ _ _ inb_S256x5632_S256x512_0_3072, tile 5 2560 rfl _ _ _ inb_S256x5632_S256x512_0_2560, tile 4 2048 rfl _ _ _ inb_S256x5632_S256x512_0_2048, tile 3 1536 rfl _ _ _ inb_S256x5632_S256x512_0_1536, tile 2 1024 rfl _ _ _ inb_S256x5632_S256x512_0_1024, tile 1 512 rfl _ _ _ inb_S256x5632_S256x512_0_512, tile 0 0 rfl _ _ _ inb_S256x5632_S256x512_0_0, trivial⟩

/-- The largest magnitude the last point stores. -/
theorem amax_C (c : Dev nD) (i : grid0.Coords) (a1 : Memref sig .tc .smem S2 .f32) (h1 : a1.IsWhole) (a2 : Memref sig .tc .vmem S256x2048 .bf16) (h2 : a2.IsWhole) (a3 : Memref sig .tc .vmem S256x5632 .bf16) (h3 : a3.IsWhole) (a4 : Memref sig .tc .vmem S256x5632 .bf16) (h4 : a4.IsWhole) (a5 : Memref sig .tc .vmem S5632x2048 .fp8e4m3) (h5 : a5.IsWhole) (a6 : Memref sig .tc .vmem S256x5632 .f32) (h6 : a6.IsWhole) (a7 : Memref sig .tc .vmem S256x2048 .fp8e5m2) (h7 : a7.IsWhole) (a8 : Memref sig .tc .smem S1x1 .f32) (h8 : a8.IsWhole) (a9 : Memref sig .tc .vmem S8x512 .f32) (h9 : a9.IsWhole) (hc0 : ¬cond0_0 i) (hc1 : cond0_1 i)
    (x0 : Vec F S2 .f32) (x1 : Vec F S256x2048 .bf16) (x2 : Vec F S256x5632 .bf16) (x3 : Vec F S256x5632 .bf16) (x4 : Vec F S5632x2048 .fp8e4m3) (xs : Vec F S8x512 .f32) (j : S1x1.Idx) :
    out0_C_7 c i a1 h1 a2 h2 a3 h3 a4 h4 a5 h5 a6 h6 a7 h7 a8 h8 a9 h9 hc0 hc1 x0 x1 x2 x3 x4 xs j = k0_pay2 (updAll (k0_pay4 x1 (x0 (ix1 0))) (x0 (ix1 1)) x4 x2 x3 xs) := by
  unfold out0_C_7
  rw [View.read_writes_eq_canon _ _ _ (cover0_C_7 c i a1 h1 a2 h2 a3 h3 a4 h4 a5 h5 a6 h6 a7 h7 a8 h8 a9 h9 hc0 hc1 x0 x1 x2 x3 x4 xs)]
  unfold kernelRun0_C
  dsimp only
  sl_unfold_words
  rw [View.canon_unit_zero hz]
  simp only [↓readCov_cons (S := S8x512) _ hz, ↓readCov_cons (S := S256x2048) _ hz]
  simp only [View.readAt_eq_ld, h1.read_unread, h2.read_unread, h3.read_unread, h4.read_unread, h5.read_unread, h9.read_unread, View.ld_unit_zero (S := S8x512) hz, View.ld_unit_zero (S := S256x2048) hz, ld_cols 0 0 rfl, ld_rows 0 0 rfl, ld_cols 1 512 rfl, ld_rows 1 512 rfl, ld_cols 2 1024 rfl, ld_rows 2 1024 rfl, ld_cols 3 1536 rfl, ld_rows 3 1536 rfl, ld_cols 4 2048 rfl, ld_rows 4 2048 rfl, ld_cols 5 2560 rfl, ld_rows 5 2560 rfl, ld_cols 6 3072 rfl, ld_rows 6 3072 rfl, ld_cols 7 3584 rfl, ld_rows 7 3584 rfl, ld_cols 8 4096 rfl, ld_rows 8 4096 rfl, ld_cols 9 4608 rfl, ld_rows 9 4608 rfl, ld_cols 10 5120 rfl, ld_rows 10 5120 rfl]
  simp only [pay5_eq, da0, da1, da2, da3, da5, da6, da7, da8, da9, da10, up0, up1, up2, up3, up4, up5, up6, up7, up8, up9, up10]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  rfl

end Cases
end Cert.DaIdeal.Fold
end
-- ==== Proof.Quant.lean ====
/-
  The formulas of the backward pass at one element, over the extended reals: the clipped quotient, the gradients of the
  two halves of the hidden layer, and the largest magnitude of the two as the kernel computes it.
-/
module

public import Idealize.ShloMosaic.Lib.Pointwise
public import Idealize.ShloMosaic.Lib.Tactic

@[expose] public section

noncomputable section

open Idealize.ShloMosaic

namespace Cert.Quant

/-- Clipping to the codes' range. -/
def clip (x : EReal) : EReal := min (Ideal.ofBits .f32 0x47600000#32) (max (Ideal.ofBits .f32 0xC7600000#32) x)

/-- The magnitude. -/
def ab (x : EReal) : EReal := max x (-x)

/-- The gradient of the gate half. -/
def dg (da g u : EReal) : EReal := da * u * Ideal.logistic g * (1 + g * (1 - Ideal.logistic g))

/-- The gradient of the other half. -/
def du (da g : EReal) : EReal := da * g * Ideal.logistic g

/-- The larger magnitude of the two gradients, as the product of a common factor and a maximum. -/
def mag (da g u : EReal) : EReal :=
  ab (da * Ideal.logistic g) * max (ab g) (ab (u * (1 + g * (1 - Ideal.logistic g))))

/-- A magnitude is not negative. -/
theorem ab_nonneg (x : EReal) : 0 ≤ ab x := by
  rcases le_total 0 x with h | h
  · exact le_max_of_le_left h
  · exact le_max_of_le_right (by simpa using EReal.neg_le_neg_iff.mpr h)

theorem ab_eq (x : EReal) : ab x = ((EReal.abs x : ENNReal) : EReal) := by
  induction x with
  | bot => simp [ab]
  | top => simp [ab]
  | coe r =>
    rw [EReal.abs_def, EReal.coe_ennreal_ofReal, max_eq_left (abs_nonneg r)]
    unfold ab
    rw [← EReal.coe_neg, abs]
    exact (EReal.coe_strictMono.monotone.map_max).symm

/-- The magnitude of a product is the product of the magnitudes. -/
theorem ab_mul (x y : EReal) : ab (x * y) = ab x * ab y := by
  rw [ab_eq, ab_eq, ab_eq, EReal.abs_mul, EReal.coe_ennreal_mul]

/-- The larger magnitude is the maximum of the two gradients' magnitudes. -/
theorem mag_eq (da g u : EReal) : mag da g u = max (ab (dg da g u)) (ab (du da g)) := by
  have h : Monotone fun y => ab (da * Ideal.logistic g) * y := fun y y' hy => mul_le_mul_of_nonneg_left hy (ab_nonneg _)
  have e : mag da g u = max (ab (da * Ideal.logistic g) * ab g) (ab (da * Ideal.logistic g) * ab (u * (1 + g * (1 - Ideal.logistic g)))) :=
    h.map_max
  rw [e, ← ab_mul, ← ab_mul, max_comm]
  unfold dg du
  congr 2 <;> ac_rfl

theorem mag_nonneg (da g u : EReal) : 0 ≤ mag da g u := by
  rw [mag_eq]
  exact le_max_of_le_left (ab_nonneg _)

end Cert.Quant

end
-- ==== Proof.DaValue.lean ====
/-
  The value of the kernel `da`: the gradient of the activations, the codes of the incoming gradient, and the scales of
  the largest magnitude of the hidden layer's gradient, each as one formula of the arguments.
-/
module

public import proofs.«01_k».proof.Proof.DaKernel
public import proofs.«01_k».proof.Proof.Quant
public import proofs.«01_k».proof.Proof.AmaxKernel
public import proofs.«01_k».proof.Proof.Gen.DaIdeal.Frame
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)
open Cert.Quant
open Cert.AmaxIdeal.Fold (negInf32)

namespace Cert.DaIdeal.Fold

open Cert.DaIdeal Cert.DaIdeal.Gen

/-! ## The block formulas at an index -/

/-- A code: the scaled element, clipped. -/
theorem pay4_apply (x : S256x2048.Idx → EReal) (s : EReal) (r : Fin 256) (d : Fin 2048) :
    k0_pay4 (F := Ideal) x s (ix2 r d) = clip (x (ix2 r d) * s) := by
  pointwise [k0_pay4]
  rfl

/-- A gradient: the contraction over the 2048 columns, scaled. -/
theorem pay22_apply (C : S256x2048.Idx → EReal) (s : EReal) (w : S512x2048.Idx → EReal) (r : Fin 256) (q : Fin 512) :
    k0_pay22 (F := Ideal) C s w (ix2 r q) = (∑ d : Fin 2048, C (ix2 r d) * w (ix2 q d)) * s := by
  pointwise [k0_pay22]

/-- The running maximum's element after a chunk. -/
theorem pay23_apply (da : S256x512.Idx → EReal) (g u : S256x512.Idx → EReal) (xs : S8x512.Idx → EReal) (a : Fin 8) (b : Fin 512) :
    k0_pay23 (F := Ideal) da g u xs (ix2 a b) = max (xs (ix2 a b)) (Finset.univ.fold max (Ideal.ofBits .f32 0xFF800000#32) fun k : Fin 32 =>
      mag (da (ix2 ⟨k.val * 8 + a.val, by omega⟩ b)) (g (ix2 ⟨k.val * 8 + a.val, by omega⟩ b)) (u (ix2 ⟨k.val * 8 + a.val, by omega⟩ b))) := by
  pointwise [k0_pay23]
  rfl

/-- A bound of the final maximum bounds every element of the running maximum. -/
theorem pay2_le (xs : S8x512.Idx → EReal) (z : EReal) :
    k0_pay2 (F := Ideal) xs ≤ z ↔ ∀ (a : Fin 8) (b : Fin 512), xs (ix2 a b) ≤ z := by
  have e : k0_pay2 (F := Ideal) xs = Finset.univ.fold max (Ideal.ofBits .f32 0xFF800000#32) fun x : Fin 8 × Fin 512 => xs (ix2 x.1 x.2) := by
    pointwise [k0_pay2]
  rw [e, Finset.fold_max_le, negInf32]
  simp

section Block
variable (C : S256x2048.Idx → EReal) (s : EReal) (w : S5632x2048.Idx → EReal) (g u : S256x5632.Idx → EReal)

/-- The magnitude a block's row and column contribute. -/
def bm (r : Fin 256) (f : Fin 5632) : EReal :=
  mag ((∑ d : Fin 2048, C (ix2 r d) * w (ix2 f d)) * s) (g (ix2 r f)) (u (ix2 r f))

/-- Column `b` of chunk `k`. -/
abbrev cf (k : Fin 11) (b : Fin 512) : Fin 5632 := ⟨512 * k.val + b.val, by omega⟩

/-- A bound of the running maximum after a chunk bounds the old one and the chunk's 32 rows folded into it. -/
theorem upd_le (k : Fin 11) (xs : S8x512.Idx → EReal) (a : Fin 8) (b : Fin 512) (z : EReal) :
    upd (F := Ideal) C s (rows (F := Ideal) (e := .fp8e4m3) k w) (cols (F := Ideal) (e := .bf16) k g) (cols (F := Ideal) (e := .bf16) k u) xs (ix2 a b) ≤ z
      ↔ xs (ix2 a b) ≤ z ∧ ∀ q : Fin 32, bm C s w g u ⟨q.val * 8 + a.val, by omega⟩ (cf k b) ≤ z := by
  unfold upd
  rw [pay23_apply, max_le_iff, Finset.fold_max_le, negInf32]
  simp only [pay22_apply, bot_le, true_and, Finset.mem_univ, forall_const]
  rfl

/-- … after all the chunks: the old one and every chunk's rows. -/
theorem updAll_le (xs : S8x512.Idx → EReal) (a : Fin 8) (b : Fin 512) (z : EReal) :
    updAll (F := Ideal) C s w g u xs (ix2 a b) ≤ z
      ↔ xs (ix2 a b) ≤ z ∧ ∀ (k : Fin 11) (q : Fin 32), bm C s w g u ⟨q.val * 8 + a.val, by omega⟩ (cf k b) ≤ z := by
  have h : ∀ (l : List (Fin 11)) (ys : S8x512.Idx → EReal),
      (l.foldl (fun acc k => upd (F := Ideal) C s (rows (F := Ideal) (e := .fp8e4m3) k w) (cols (F := Ideal) (e := .bf16) k g) (cols (F := Ideal) (e := .bf16) k u) acc) ys : S8x512.Idx → EReal) (ix2 a b) ≤ z
        ↔ ys (ix2 a b) ≤ z ∧ ∀ k ∈ l, ∀ q : Fin 32, bm C s w g u ⟨q.val * 8 + a.val, by omega⟩ (cf k b) ≤ z := by
    intro l
    induction l with
    | nil => intro ys; simp
    | cons k l ih =>
      intro ys
      rw [List.foldl_cons, ih, upd_le, List.forall_mem_cons, and_assoc]
  unfold updAll
  rw [h]
  simp

/-- The block of gradients at an index. -/
theorem daBlk_apply (r : Fin 256) (f : Fin 5632) :
    daBlk (F := Ideal) C s w (ix2 r f) = (∑ d : Fin 2048, C (ix2 r d) * w (ix2 f d)) * s := by
  have hf := f.isLt
  show k0_pay22 (F := Ideal) C s (rows (F := Ideal) (e := .fp8e4m3) ⟨f.val / 512, by omega⟩ w) (ix2 r ⟨f.val % 512, by omega⟩) = _
  rw [pay22_apply]
  have e : (⟨512 * (f.val / 512) + f.val % 512, by omega⟩ : Fin 5632) = f := Fin.ext (by show 512 * (f.val / 512) + f.val % 512 = f.val; omega)
  have h : ∀ d, rows (F := Ideal) (e := .fp8e4m3) ⟨f.val / 512, by omega⟩ w (ix2 ⟨f.val % 512, by omega⟩ d) = w (ix2 f d) := by
    intro d
    exact congrArg (fun f => w (ix2 f d)) e
  simp only [h]

end Block

section Value
variable (m : (ℓ : Loc nD τ sig) → Buf (Elt Ideal) ℓ) (ρ : Dev nD → PrngReg)

/-- The two scalars as the region finds them. -/
abbrev SC (c : Dev nD) : S2.Idx → EReal := V m c main_v3
/-- The incoming gradient's rows. -/
abbrev DY (c : Dev nD) : S16384x2048.Idx → EReal := V m c main_v4
/-- The two halves of the hidden layer, side by side. -/
abbrev GU (c : Dev nD) : S16384x11264.Idx → EReal := V m c main_v5
/-- The weights' codes. -/
abbrev W2 (c : Dev nD) : S5632x2048.Idx → EReal := V m c main_arg5

/-- The code of an element of the incoming gradient. -/
def CO (c : Dev nD) (r : Fin 16384) (d : Fin 2048) : EReal := clip (DY m c (ix2 r d) * SC m c (ix1 0))
/-- The gradient of an activation. -/
def DA (c : Dev nD) (r : Fin 16384) (f : Fin 5632) : EReal := (∑ d : Fin 2048, CO m c r d * W2 m c (ix2 f d)) * SC m c (ix1 1)
/-- The larger magnitude of the two gradients of the hidden layer. -/
def MG (c : Dev nD) (r : Fin 16384) (f : Fin 5632) : EReal :=
  mag (DA m c r f) (GU m c (ix2 r ⟨f.val, by omega⟩)) (GU m c (ix2 r ⟨5632 + f.val, by omega⟩))

theorem idx_in : ∀ t : Fin cfg0.N, win0_0.index t (0 : Fin 1) = 0 ∧ win0_1.index t (0 : Fin 2) = t.val ∧ win0_1.index t (1 : Fin 2) = 0
    ∧ win0_2.index t (0 : Fin 2) = t.val ∧ win0_2.index t (1 : Fin 2) = 0 ∧ win0_3.index t (0 : Fin 2) = t.val ∧ win0_3.index t (1 : Fin 2) = 1
    ∧ win0_4.index t (0 : Fin 2) = 0 ∧ win0_4.index t (1 : Fin 2) = 0 ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r` of block `t`. -/
abbrev row (t : ℕ) (r : ℕ) : Fin 16384 := Fin.ofNat 16384 (256 * t + r)

theorem iblk0_apply (c : Dev nD) (t : Fin cfg0.N) (k : Fin 2) : (iblk m c 0 t : S2.Idx → EReal) (ix1 k) = SC m c (ix1 k) := by
  obtain ⟨e0, -⟩ := idx_in t
  show V m c main_v3 _ = V m c main_v3 _
  congr 1
  funext a
  apply Fin.ext
  match a with
  | ⟨0, _⟩ => show win0_0.index t 0 * 2 + 1 * k.val = k.val; rw [e0]; omega

theorem iblk1_apply (c : Dev nD) (t : Fin cfg0.N) (r : Fin 256) (d : Fin 2048) :
    (iblk m c 1 t : S256x2048.Idx → EReal) (ix2 r d) = DY m c (ix2 (row t.val r.val) d) := by
  obtain ⟨-, e0, e1, -⟩ := idx_in t
  have hr := r.isLt
  have hN : t.val < 64 := lt_of_lt_of_eq t.isLt N_0
  show V m c main_v4 _ = V m c main_v4 _
  congr 1
  funext a
  apply Fin.ext
  match a with
  | ⟨0, _⟩ => show win0_1.index t 0 * 256 + 1 * r.val = (256 * t.val + r.val) % 16384; rw [e0]; omega
  | ⟨1, _⟩ => show win0_1.index t 1 * 2048 + 1 * d.val = d.val; rw [e1]; omega

theorem iblk2_apply (c : Dev nD) (t : Fin cfg0.N) (r : Fin 256) (f : Fin 5632) :
    (iblk m c 2 t : S256x5632.Idx → EReal) (ix2 r f) = GU m c (ix2 (row t.val r.val) ⟨f.val, by omega⟩) := by
  obtain ⟨-, -, -, e0, e1, -⟩ := idx_in t
  have hr := r.isLt
  have hN : t.val < 64 := lt_of_lt_of_eq t.isLt N_0
  show V m c main_v5 _ = V m c main_v5 _
  congr 1
  funext a
  apply Fin.ext
  match a with
  | ⟨0, _⟩ => show win0_2.index t 0 * 256 + 1 * r.val = (256 * t.val + r.val) % 16384; rw [e0]; omega
  | ⟨1, _⟩ => show win0_2.index t 1 * 5632 + 1 * f.val = f.val; rw [e1]; omega

theorem iblk3_apply (c : Dev nD) (t : Fin cfg0.N) (r : Fin 256) (f : Fin 5632) :
    (iblk m c 3 t : S256x5632.Idx → EReal) (ix2 r f) = GU m c (ix2 (row t.val r.val) ⟨5632 + f.val, by omega⟩) := by
  obtain ⟨-, -, -, -, -, e0, e1, -⟩ := idx_in t
  have hr := r.isLt
  have hN : t.val < 64 := lt_of_lt_of_eq t.isLt N_0
  show V m c main_v5 _ = V m c main_v5 _
  congr 1
  funext a
  apply Fin.ext
  match a with
  | ⟨0, _⟩ => show win0_3.index t 0 * 256 + 1 * r.val = (256 * t.val + r.val) % 16384; rw [e0]; omega
  | ⟨1, _⟩ => show win0_3.index t 1 * 5632 + 1 * f.val = 5632 + f.val; rw [e1]; omega

theorem iblk4_apply (c : Dev nD) (t : Fin cfg0.N) (f : Fin 5632) (d : Fin 2048) :
    (iblk m c 4 t : S5632x2048.Idx → EReal) (ix2 f d) = W2 m c (ix2 f d) := by
  obtain ⟨-, -, -, -, -, -, -, e0, e1, -⟩ := idx_in t
  show V m c main_arg5 _ = V m c main_arg5 _
  congr 1
  funext a
  apply Fin.ext
  match a with
  | ⟨0, _⟩ => show win0_4.index t 0 * 5632 + 1 * f.val = f.val; rw [e0]; omega
  | ⟨1, _⟩ => show win0_4.index t 1 * 2048 + 1 * d.val = d.val; rw [e1]; omega

/-- A point's block of codes. -/
abbrev cblk (c : Dev nD) (t : Fin cfg0.N) : S256x2048.Idx → EReal := k0_pay4 (F := Ideal) (iblk m c 1 t) ((iblk m c 0 t : S2.Idx → EReal) (ix1 0))

theorem cblk_apply (c : Dev nD) (t : Fin cfg0.N) (r : Fin 256) (d : Fin 2048) : cblk m c t (ix2 r d) = CO m c (row t.val r.val) d := by
  unfold cblk CO
  rw [pay4_apply, iblk0_apply, iblk1_apply]

/-- A point's block of gradients. -/
abbrev dblk (c : Dev nD) (t : Fin cfg0.N) : S256x5632.Idx → EReal := daBlk (F := Ideal) (cblk m c t) ((iblk m c 0 t : S2.Idx → EReal) (ix1 1)) (iblk m c 4 t)

theorem dsum (c : Dev nD) (t : Fin cfg0.N) (r : Fin 256) (f : Fin 5632) :
    (∑ d : Fin 2048, cblk m c t (ix2 r d) * (iblk m c 4 t : S5632x2048.Idx → EReal) (ix2 f d)) * (iblk m c 0 t : S2.Idx → EReal) (ix1 1) = DA m c (row t.val r.val) f := by
  unfold DA
  rw [iblk0_apply]
  refine congrArg (· * SC m c (ix1 1)) (Finset.sum_congr rfl fun d _ => ?_)
  rw [cblk_apply, iblk4_apply]

theorem dblk_apply (c : Dev nD) (t : Fin cfg0.N) (r : Fin 256) (f : Fin 5632) : dblk m c t (ix2 r f) = DA m c (row t.val r.val) f := by
  unfold dblk
  rw [daBlk_apply, dsum]

/-- The running maximum after a point. -/
abbrev mblk (c : Dev nD) (t : Fin cfg0.N) (xs : S8x512.Idx → EReal) : S8x512.Idx → EReal :=
  updAll (F := Ideal) (cblk m c t) ((iblk m c 0 t : S2.Idx → EReal) (ix1 1)) (iblk m c 4 t) (iblk m c 2 t) (iblk m c 3 t) xs

theorem mblk_le (c : Dev nD) (t : Fin cfg0.N) (xs : S8x512.Idx → EReal) (a : Fin 8) (b : Fin 512) (z : EReal) :
    mblk m c t xs (ix2 a b) ≤ z ↔ xs (ix2 a b) ≤ z ∧ ∀ (k : Fin 11) (q : Fin 32), MG m c (row t.val (q.val * 8 + a.val)) (cf k b) ≤ z := by
  unfold mblk
  rw [updAll_le]
  refine and_congr_right fun _ => forall_congr' fun k => forall_congr' fun q => ?_
  unfold bm MG
  rw [dsum, iblk2_apply, iblk3_apply]

/-- A bound of the running maximum after point `n` bounds zero and the magnitudes of the rows up to that point's. -/
theorem acc_le (c : Dev nD) : ∀ (n : ℕ) (h : n < cfg0.N) (a : Fin 8) (b : Fin 512) (z : EReal),
    (outsAt0 m c n h).2.2.2 (ix2 a b) ≤ z ↔ 0 ≤ z ∧ ∀ q < 32 * (n + 1), ∀ k : Fin 11, MG m c (Fin.ofNat 16384 (q * 8 + a.val)) (cf k b) ≤ z := by
  have step : ∀ (n : ℕ) (h : n < cfg0.N) (xs : S8x512.Idx → EReal) (a : Fin 8) (b : Fin 512) (z : EReal),
      (xs (ix2 a b) ≤ z ↔ 0 ≤ z ∧ ∀ q < 32 * n, ∀ k : Fin 11, MG m c (Fin.ofNat 16384 (q * 8 + a.val)) (cf k b) ≤ z) →
      (mblk m c ⟨n, h⟩ xs (ix2 a b) ≤ z ↔ 0 ≤ z ∧ ∀ q < 32 * (n + 1), ∀ k : Fin 11, MG m c (Fin.ofNat 16384 (q * 8 + a.val)) (cf k b) ≤ z) := by
    intro n h xs a b z hxs
    have ha := a.isLt
    rw [mblk_le, hxs, and_assoc]
    refine and_congr_right fun _ => ⟨fun ⟨h0, h1⟩ q hq k => ?_, fun h0 => ⟨fun q hq => h0 q (by omega), fun k q => ?_⟩⟩
    · by_cases hq' : q < 32 * n
      · exact h0 q hq' k
      · have e := h1 k ⟨q - 32 * n, by omega⟩
        have e' : 256 * n + ((q - 32 * n) * 8 + a.val) = q * 8 + a.val := by omega
        dsimp only [row] at e
        rw [e'] at e
        exact e
    · have e := h0 (32 * n + q.val) (by omega) k
      have e' : 256 * n + (q.val * 8 + a.val) = (32 * n + q.val) * 8 + a.val := by omega
      dsimp only [row]
      rw [e']
      exact e
  intro n
  induction n with
  | zero =>
    intro h a b z
    rw [outsAt0_A m c ⟨0, h⟩ (by rfl) (by dsimp only; omega)]
    dsimp only
    rw [sout_A]
    refine step 0 h _ a b z ?_
    have e : (k0_pay3 (F := Ideal)) (ix2 a b) = 0 := by pointwise [k0_pay3]
    rw [e]
    simp
  | succ n ih =>
    intro h a b z
    have hN : n + 1 < 64 := lt_of_lt_of_eq h N_0
    by_cases h1 : (n + 1) % 64 = 63
    · rw [outsAt0_C m c ⟨n + 1, h⟩ (by dsimp only; omega) h1]
      dsimp only
      rw [sout_C]
      exact step (n + 1) h _ a b z (ih _ a b z)
    · rw [outsAt0_B m c ⟨n + 1, h⟩ (by dsimp only; omega) h1]
      dsimp only
      rw [sout_B]
      exact step (n + 1) h _ a b z (ih _ a b z)

/-! ## What each point leaves in its blocks, and the arrays at the end -/

theorem outs5 (c : Dev nD) (t : Fin cfg0.N) : (outsAt0 m c t.val t.isLt).1 = dblk m c t := by
  by_cases h0 : t.val % 64 = 0
  · rw [outsAt0_A m c t h0 (by omega)]
    dsimp only
    rw [da_A]
  · by_cases h1 : t.val % 64 = 63
    · rw [outsAt0_C m c t h0 h1]
      dsimp only
      rw [da_C]
    · rw [outsAt0_B m c t h0 h1]
      dsimp only
      rw [da_B]

theorem outs6 (c : Dev nD) (t : Fin cfg0.N) : (outsAt0 m c t.val t.isLt).2.1 = cblk m c t := by
  by_cases h0 : t.val % 64 = 0
  · rw [outsAt0_A m c t h0 (by omega)]
    dsimp only
    rw [codes_A]
  · by_cases h1 : t.val % 64 = 63
    · rw [outsAt0_C m c t h0 h1]
      dsimp only
      rw [codes_C]
    · rw [outsAt0_B m c t h0 h1]
      dsimp only
      rw [codes_B]

theorem flush5 : ∀ t : Fin cfg0.N, (cfg0.win 5).flush t = true := (by decide +kernel : ∀ t : Fin grid0.N, (win0_5).flush t = true)
theorem flush6 : ∀ t : Fin cfg0.N, (cfg0.win 6).flush t = true := (by decide +kernel : ∀ t : Fin grid0.N, (win0_6).flush t = true)

theorem ix_eta {n k : ℕ} (y : (⟨2, ![n, k]⟩ : Shape).Idx) : y = ix2 (y 0) (y 1) := funext fun a => by match a with | ⟨0, _⟩ => rfl | ⟨1, _⟩ => rfl

theorem dblk_at (c : Dev nD) (t : Fin cfg0.N) (y : S256x5632.Idx) : dblk m c t y = DA m c (row t.val (y 0).val) (y 1) :=
  (congrArg (dblk m c t) (ix_eta y)).trans (dblk_apply m c t (y 0) (y 1))

theorem cblk_at (c : Dev nD) (t : Fin cfg0.N) (y : S256x2048.Idx) : cblk m c t y = CO m c (row t.val (y 0).val) (y 1) :=
  (congrArg (cblk m c t) (ix_eta y)).trans (cblk_apply m c t (y 0) (y 1))

/-- The point whose blocks hold row `r`. -/
def ptOf (r : ℕ) : Fin cfg0.N := Fin.cast N_0.symm (Fin.ofNat 64 (r / 256))

theorem row_ptOf (r : Fin 16384) : row (ptOf r.val).val (r.val % 256) = r := by
  have hr := r.isLt
  apply Fin.ext
  show (256 * (r.val / 256 % 64) + r.val % 256) % 16384 = r.val
  omega

/-- The array of gradients ends holding every gradient. -/
theorem arr5 (c : Dev nD) : (dats m 0 c).arrAt 5 cfg0.N = fun i : S16384x5632.Idx => DA m c (i 0) (i 1) := by
  refine (dats m 0 c).arrAt_eq_of_cover 5 _ (fun t _ => ?_) fun i => ⟨ptOf (i 0).val, flush5 _, ?_⟩
  · obtain ⟨-, -, -, -, -, -, -, -, -, e0, e1, -⟩ := idx_in t
    have hN : t.val < 64 := lt_of_lt_of_eq t.isLt N_0
    show (cfg0.win 5).cut (grid0.coords t) ((dats m 0 c).after 5 t) = _
    rw [after0_5, outs5]
    funext y
    have hy0 : (y 0).val < 256 := (y 0).isLt
    have hy1 : (y 1).val < 5632 := (y 1).isLt
    show dblk m c t y = DA m c ((((cfg0.win 5).blk t).view.emb y) 0) ((((cfg0.win 5).blk t).view.emb y) 1)
    refine (dblk_at m c t y).trans ?_
    congr 1
    · apply Fin.ext
      show (256 * t.val + (y 0).val) % 16384 = win0_5.index t 0 * 256 + 1 * (y 0).val
      rw [e0]; omega
    · apply Fin.ext
      show (y 1).val = win0_5.index t 1 * 5632 + 1 * (y 1).val
      rw [e1]; omega
  · obtain ⟨-, -, -, -, -, -, -, -, -, e0, e1, -⟩ := idx_in (ptOf (i 0).val)
    have hi0 : (i 0).val < 16384 := (i 0).isLt
    have e := ((cfg0.win 5).blk (ptOf (i 0).val)).view.emb_mem_set (ix2 (Fin.ofNat 256 (i 0).val) (i 1))
    have h : ((cfg0.win 5).blk (ptOf (i 0).val)).view.emb (ix2 (Fin.ofNat 256 (i 0).val) (i 1)) = i := by
      funext a
      apply Fin.ext
      match a with
      | ⟨0, _⟩ =>
        show win0_5.index (ptOf (i 0).val) 0 * 256 + 1 * ((i 0).val % 256) = (i 0).val
        rw [e0]
        show (i 0).val / 256 % 64 * 256 + 1 * ((i 0).val % 256) = (i 0).val
        omega
      | ⟨1, _⟩ => show win0_5.index (ptOf (i 0).val) 1 * 5632 + 1 * (i 1).val = (i 1).val; rw [e1]; omega
    rwa [h] at e

/-- The array of codes ends holding every code. -/
theorem arr6 (c : Dev nD) : (dats m 0 c).arrAt 6 cfg0.N = fun i : S16384x2048.Idx => CO m c (i 0) (i 1) := by
  refine (dats m 0 c).arrAt_eq_of_cover 6 _ (fun t _ => ?_) fun i => ⟨ptOf (i 0).val, flush6 _, ?_⟩
  · obtain ⟨-, -, -, -, -, -, -, -, -, -, -, e0, e1⟩ := idx_in t
    have hN : t.val < 64 := lt_of_lt_of_eq t.isLt N_0
    show (cfg0.win 6).cut (grid0.coords t) ((dats m 0 c).after 6 t) = _
    rw [after0_6, outs6]
    funext y
    have hy0 : (y 0).val < 256 := (y 0).isLt
    have hy1 : (y 1).val < 2048 := (y 1).isLt
    show cblk m c t y = CO m c ((((cfg0.win 6).blk t).view.emb y) 0) ((((cfg0.win 6).blk t).view.emb y) 1)
    refine (cblk_at m c t y).trans ?_
    congr 1
    · apply Fin.ext
      show (256 * t.val + (y 0).val) % 16384 = win0_6.index t 0 * 256 + 1 * (y 0).val
      rw [e0]; omega
    · apply Fin.ext
      show (y 1).val = win0_6.index t 1 * 2048 + 1 * (y 1).val
      rw [e1]; omega
  · obtain ⟨-, -, -, -, -, -, -, -, -, -, -, e0, e1⟩ := idx_in (ptOf (i 0).val)
    have hi0 : (i 0).val < 16384 := (i 0).isLt
    have e := ((cfg0.win 6).blk (ptOf (i 0).val)).view.emb_mem_set (ix2 (Fin.ofNat 256 (i 0).val) (i 1))
    have h : ((cfg0.win 6).blk (ptOf (i 0).val)).view.emb (ix2 (Fin.ofNat 256 (i 0).val) (i 1)) = i := by
      funext a
      apply Fin.ext
      match a with
      | ⟨0, _⟩ =>
        show win0_6.index (ptOf (i 0).val) 0 * 256 + 1 * ((i 0).val % 256) = (i 0).val
        rw [e0]
        show (i 0).val / 256 % 64 * 256 + 1 * ((i 0).val % 256) = (i 0).val
        omega
      | ⟨1, _⟩ => show win0_6.index (ptOf (i 0).val) 1 * 2048 + 1 * (i 1).val = (i 1).val; rw [e1]; omega
    rwa [h] at e

/-- The last point. -/
abbrev tl : Fin cfg0.N := ⟨63, lt_of_lt_of_eq (by decide) N_0.symm⟩

/-- What the one-element array ends holding. -/
abbrev A7 (c : Dev nD) : S1x1.Idx → EReal := (dats m 0 c).arrAt 7 cfg0.N

theorem flush7 : ∀ t : Fin cfg0.N, (cfg0.win 7).flush t = true → t = tl :=
  (by decide +kernel : ∀ t : Fin grid0.N, (win0_7).flush t = true → t = ⟨63, by decide⟩)
theorem flush7' : (cfg0.win 7).flush tl = true := by decide +kernel

/-- A bound of the result bounds zero and every magnitude. -/
theorem A7_le (c : Dev nD) (i : S1x1.Idx) (z : EReal) :
    A7 m c i ≤ z ↔ 0 ≤ z ∧ ∀ (r : Fin 16384) (f : Fin 5632), MG m c r f ≤ z := by
  have hA : A7 m c = (outsAt0 m c 63 tl.isLt).2.2.1 :=
    (dats m 0 c).arrAt_eq_of_cover 7 _ (fun t hf => by
      obtain rfl := flush7 t hf
      show (cfg0.win 7).cut (grid0.coords tl) ((dats m 0 c).after 7 tl) = _
      rw [after0_7]
      funext j
      show (outsAt0 m c 63 tl.isLt).2.2.1 _ = (outsAt0 m c 63 tl.isLt).2.2.1 _
      exact congrArg _ (AmaxIdeal.Fold.idx1_eq _ _)) fun j => ⟨tl, flush7', by
        have := ((cfg0.win 7).blk tl).view.emb_mem_set (ix2 0 0)
        rwa [show ((cfg0.win 7).blk tl).view.emb (ix2 0 0) = j from AmaxIdeal.Fold.idx1_eq _ _] at this⟩
  rw [hA]
  have hs : ∀ a b, (outsAt0 m c 63 tl.isLt).2.2.2 (ix2 a b) ≤ z ↔ _ := fun a b => acc_le m c 63 tl.isLt a b z
  rw [outsAt0_C m c tl (by decide) (by decide)] at hs ⊢
  dsimp only at hs ⊢
  rw [amax_C, pay2_le]
  rw [sout_C] at hs
  simp only [hs]
  constructor
  · intro h
    refine ⟨(h 0 0).1, fun r f => ?_⟩
    have hr := r.isLt
    have hf := f.isLt
    have e := (h (Fin.ofNat 8 r.val) (Fin.ofNat 512 f.val)).2 (r.val / 8) (by omega) ⟨f.val / 512, by omega⟩
    have h1 : Fin.ofNat 16384 (r.val / 8 * 8 + (Fin.ofNat 8 r.val).val) = r := by
      apply Fin.ext
      show (r.val / 8 * 8 + r.val % 8) % 16384 = r.val
      omega
    have h2 : cf ⟨f.val / 512, by omega⟩ (Fin.ofNat 512 f.val) = f := by
      apply Fin.ext
      show 512 * (f.val / 512) + f.val % 512 = f.val
      omega
    rwa [h1, h2] at e
  · intro h a b
    exact ⟨h.1, fun q _ k => h.2 _ _⟩

/-- The region's results as the later host operations find them. -/
abbrev Vx (c : Dev nD) : Valuation τ sig (Elt Ideal) := Pipeline.withArrays cfg0.spec c (V0 m c) fun w => (dats m 0 c).arrAt w cfg0.N

theorem Vx_v6_2 (c : Dev nD) : Vx m c (Proc.devRef .tc main_v6_2) = A7 m c :=
  (dats m 0 c).withArrays_arrAt sharedIn0 (V0 m c) (A_eq m c) 7

/-- The largest magnitude as a scalar. -/
def top (c : Dev nD) : FVec Ideal S_ .f32 := fun _ => A7 m c (ix2 0 0)

theorem tail_e (c : Dev nD) : (fun i => shapeCast main_v7.ty.shape (Vx m c (Proc.devRef .tc main_v6_2)) shapeCasts_S1x1_S_ i : FVec Ideal S_ .f32) = top m c := by
  rw [Vx_v6_2]
  exact AmaxIdeal.Fold.scalar _

theorem tail_scale (c : Dev nD) : Pipeline.afterTail₀ cfgs (dats m) 0 (V0 m) [hostOps1, hostOps1_1, hostOps1_2] c main_v24 = Scales.scale (top m c) := by
  unfold Pipeline.afterTail₀
  show StableHlo.after (List.flatten [hostOps1, hostOps1_1, hostOps1_2]) (Vx m c) (Proc.devRef .tc main_v24) = _
  have e := tail_e m c
  generalize Vx m c = W at e ⊢
  generalize top m c = x at e ⊢
  simp only [hostOps1, hostOps1_1, hostOps1_2, List.flatten_cons, List.flatten_nil, List.append_nil, List.cons_append, List.nil_append]
  after_results_simp
  rw [← e]
  rfl

theorem tail_inv (c : Dev nD) : Pipeline.afterTail₀ cfgs (dats m) 0 (V0 m) [hostOps1, hostOps1_1, hostOps1_2] c main_v28 = Scales.inv (top m c) := by
  unfold Pipeline.afterTail₀
  show StableHlo.after (List.flatten [hostOps1, hostOps1_1, hostOps1_2]) (Vx m c) (Proc.devRef .tc main_v28) = _
  have e := tail_e m c
  generalize Vx m c = W at e ⊢
  generalize top m c = x at e ⊢
  simp only [hostOps1, hostOps1_1, hostOps1_2, List.flatten_cons, List.flatten_nil, List.append_nil, List.cons_append, List.nil_append]
  after_results_simp
  rw [← e]
  rfl

/-- THE RUN: the gradients, the codes, and the scale and inverse scale of the largest magnitude; the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6_0) = (fun i : S16384x5632.Idx => DA m c (i 0) (i 1))
      ∧ r.2.mem ((c.tc : Thread nD τ).loc main_v6_1) = (fun i : S16384x2048.Idx => CO m c (i 0) (i 1))
      ∧ r.2.mem ((c.tc : Thread nD τ).loc main_v24) = Scales.scale (top m c)
      ∧ r.2.mem ((c.tc : Thread nD τ).loc main_v28) = Scales.inv (top m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).1 5).trans (arr5 m c),
      ((h c).1 6).trans (arr6 m c),
      ((h c).2 main_v24 (Pipeline.mem_restRefs_of main_v24 (by decide) (by decide))).trans (tail_scale m c),
      ((h c).2 main_v28 (Pipeline.mem_restRefs_of main_v28 (by decide) (by decide))).trans (tail_inv m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Value

end Cert.DaIdeal.Fold

end
-- ==== Proof.DaRef.lean ====
/-
  The value of the reference `ref_da`: its one block of each result is the whole array; and the claim that the kernel
  computes the same arrays and the same scales.
-/
module

public import proofs.«01_k».proof.Defs
public import proofs.«01_k».proof.Proof.DaValue
public import proofs.«01_k».proof.Proof.AmaxRef
public import proofs.«01_k».proof.Proof.Gen.DaRefIdeal.Frame

@[expose] public section

noncomputable section

open Idealize.ShloMosaic Idealize.ShloMosaic.TcCoe Idealize.SL.Sem
open Idealize.ShloMosaic.Pipeline (Dat)
open Cert.Quant
open Cert.AmaxIdeal.Fold (negInf32)

namespace Cert.DaRefIdeal.Whole

open Cert.DaRefIdeal Cert.DaRefIdeal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

theorem ld_one (x : Vec F S1 .f32) (h) (j) : View.ld x (Rect.unit (s := S1) ![0] ![1] h) j = x (ix1 0) := congrArg x (idx1_eq _ _)

/-- The left and the right half of the columns. -/
def left (x : Vec F S16384x11264 .bf16) : Vec F S16384x5632 .bf16 := fun j => x (ix2 (j 0) ⟨(j 1).val, by have : (j 1).val < 5632 := (j 1).isLt; omega⟩)
def right (x : Vec F S16384x11264 .bf16) : Vec F S16384x5632 .bf16 := fun j => x (ix2 (j 0) ⟨5632 + (j 1).val, by have : (j 1).val < 5632 := (j 1).isLt; omega⟩)

theorem ld_left (x : Vec F S16384x11264 .bf16) (h) : View.ld x (Rect.unit (s := S16384x11264) ![0, 0] ![16384, 5632] h) = left x := by
  funext j
  refine congrArg x (funext fun a => Fin.ext ?_)
  match a with
  | ⟨0, _⟩ => show 0 + 1 * (j 0).val = (j 0).val; omega
  | ⟨1, _⟩ => show 0 + 1 * (j 1).val = (j 1).val; omega
theorem ld_right (x : Vec F S16384x11264 .bf16) (h) : View.ld x (Rect.unit (s := S16384x11264) ![0, 5632] ![16384, 5632] h) = right x := by
  funext j
  refine congrArg x (funext fun a => Fin.ext ?_)
  match a with
  | ⟨0, _⟩ => show 0 + 1 * (j 0).val = (j 0).val; omega
  | ⟨1, _⟩ => show 5632 + 1 * (j 1).val = 5632 + (j 1).val; omega

/-- The gradients: the body's formula of its arguments. -/
theorem da_A (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S16384x2048 .bf16) (h3 : a3.IsWhole) (a4 : Memref sig .tc .vmem S16384x11264 .bf16) (h4 : a4.IsWhole) (a5 : Memref sig .tc .vmem S5632x2048 .fp8e4m3) (h5 : a5.IsWhole) (a6 : Memref sig .tc .vmem S16384x5632 .f32) (h6 : a6.IsWhole) (a7 : Memref sig .tc .vmem S16384x2048 .fp8e5m2) (h7 : a7.IsWhole) (a8 : Memref sig .tc .smem S1x1 .f32) (h8 : a8.IsWhole)
    (x0 : Vec F S1 .f32) (x1 : Vec F S1 .f32) (x2 : Vec F S1 .f32) (x3 : Vec F S16384x2048 .bf16) (x4 : Vec F S16384x11264 .bf16) (x5 : Vec F S5632x2048 .fp8e4m3) :
    out0_A_6 c a0 h0 a1 h1 a2 h2 a3 h3 a4 h4 a5 h5 a6 h6 a7 h7 a8 h8 x0 x1 x2 x3 x4 x5 = k0_pay3 x3 (x0 (ix1 0)) x5 (x1 (ix1 0)) (x2 (ix1 0)) := by
  unfold out0_A_6
  rw [View.read_writes_eq_canon _ _ _ (cover0_A_6 c a0 h0 a1 h1 a2 h2 a3 h3 a4 h4 a5 h5 a6 h6 a7 h7 a8 h8 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S16384x2048) hz, View.ld_unit_zero (S := S5632x2048) hz, View.ld_unit_zero (S := S1) hz1]
  congr 1 <;> exact ld_one _ _ _

/-- The codes likewise. -/
theorem codes_A (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S16384x2048 .bf16) (h3 : a3.IsWhole) (a4 : Memref sig .tc .vmem S16384x11264 .bf16) (h4 : a4.IsWhole) (a5 : Memref sig .tc .vmem S5632x2048 .fp8e4m3) (h5 : a5.IsWhole) (a6 : Memref sig .tc .vmem S16384x5632 .f32) (h6 : a6.IsWhole) (a7 : Memref sig .tc .vmem S16384x2048 .fp8e5m2) (h7 : a7.IsWhole) (a8 : Memref sig .tc .smem S1x1 .f32) (h8 : a8.IsWhole)
    (x0 : Vec F S1 .f32) (x1 : Vec F S1 .f32) (x2 : Vec F S1 .f32) (x3 : Vec F S16384x2048 .bf16) (x4 : Vec F S16384x11264 .bf16) (x5 : Vec F S5632x2048 .fp8e4m3) :
    out0_A_7 c a0 h0 a1 h1 a2 h2 a3 h3 a4 h4 a5 h5 a6 h6 a7 h7 a8 h8 x0 x1 x2 x3 x4 x5 = k0_pay2 x3 (x0 (ix1 0)) := by
  unfold out0_A_7
  rw [View.read_writes_eq_canon _ _ _ (cover0_A_7 c a0 h0 a1 h1 a2 h2 a3 h3 a4 h4 a5 h5 a6 h6 a7 h7 a8 h8 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S16384x2048) hz, View.ld_unit_zero (S := S5632x2048) hz, View.ld_unit_zero (S := S1) hz1]
  exact congrArg _ (ld_one _ _ _)

/-- The largest magnitude likewise. -/
theorem amax_A (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S16384x2048 .bf16) (h3 : a3.IsWhole) (a4 : Memref sig .tc .vmem S16384x11264 .bf16) (h4 : a4.IsWhole) (a5 : Memref sig .tc .vmem S5632x2048 .fp8e4m3) (h5 : a5.IsWhole) (a6 : Memref sig .tc .vmem S16384x5632 .f32) (h6 : a6.IsWhole) (a7 : Memref sig .tc .vmem S16384x2048 .fp8e5m2) (h7 : a7.IsWhole) (a8 : Memref sig .tc .smem S1x1 .f32) (h8 : a8.IsWhole)
    (x0 : Vec F S1 .f32) (x1 : Vec F S1 .f32) (x2 : Vec F S1 .f32) (x3 : Vec F S16384x2048 .bf16) (x4 : Vec F S16384x11264 .bf16) (x5 : Vec F S5632x2048 .fp8e4m3) (j : S1x1.Idx) :
    out0_A_8 c a0 h0 a1 h1 a2 h2 a3 h3 a4 h4 a5 h5 a6 h6 a7 h7 a8 h8 x0 x1 x2 x3 x4 x5 j = k0_pay1 (k0_pay4 x3 (x0 (ix1 0)) x5 (x1 (ix1 0)) (x2 (ix1 0)) (left x4) (right x4)) := by
  unfold out0_A_8
  rw [View.read_writes_eq_canon _ _ _ (cover0_A_8 c a0 h0 a1 h1 a2 h2 a3 h3 a4 h4 a5 h5 a6 h6 a7 h7 a8 h8 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S16384x2048) hz, View.ld_unit_zero (S := S5632x2048) hz, View.ld_unit_zero (S := S1) hz1, ld_left, ld_right]
  congr 2 <;> exact ld_one _ _ _

end Cases

/-! ## The formulas at an index -/

theorem pay2_apply (x : S16384x2048.Idx → EReal) (s : EReal) (r : Fin 16384) (d : Fin 2048) :
    k0_pay2 (F := Ideal) x s (ix2 r d) = clip (x (ix2 r d) * s) := by
  pointwise [k0_pay2]
  rfl

theorem pay3_apply (x : S16384x2048.Idx → EReal) (s : EReal) (w : S5632x2048.Idx → EReal) (s1 s2 : EReal) (r : Fin 16384) (f : Fin 5632) :
    k0_pay3 (F := Ideal) x s w s1 s2 (ix2 r f) = (∑ d : Fin 2048, clip (x (ix2 r d) * s) * w (ix2 f d)) * (s1 * s2) := by
  have e : ∀ C : S16384x2048.Idx → EReal, k0_pay2 (F := Ideal) x s = C →
      k0_pay3 (F := Ideal) x s w s1 s2 (ix2 r f) = (∑ d : Fin 2048, C (ix2 r d) * w (ix2 f d)) * (s1 * s2) := by
    rintro C rfl
    unfold k0_pay3
    generalize k0_pay2 (F := Ideal) x s = C
    pointwise
  rw [e _ rfl]
  simp only [pay2_apply]

theorem pay1_le (v : S16384x11264.Idx → EReal) (z : EReal) :
    k0_pay1 (F := Ideal) v ≤ z ↔ ∀ (r : Fin 16384) (f : Fin 11264), ab (v (ix2 r f)) ≤ z := by
  have e : k0_pay1 (F := Ideal) v = Finset.univ.fold max (Ideal.ofBits .f32 0xFF800000#32) fun x : Fin 16384 × Fin 11264 => ab (v (ix2 x.1 x.2)) := by
    pointwise [k0_pay1]
    rfl
  rw [e, Finset.fold_max_le, negInf32]
  simp

theorem pay4_left (x : S16384x2048.Idx → EReal) (s : EReal) (w : S5632x2048.Idx → EReal) (s1 s2 : EReal) (g u : S16384x5632.Idx → EReal) (r : Fin 16384) (f : Fin 5632) :
    k0_pay4 (F := Ideal) x s w s1 s2 g u (ix2 r ⟨f.val, by omega⟩) = dg (k0_pay3 (F := Ideal) x s w s1 s2 (ix2 r f)) (g (ix2 r f)) (u (ix2 r f)) := by
  unfold k0_pay4
  generalize k0_pay3 (F := Ideal) x s w s1 s2 = D
  pointwise
  rfl

theorem pay4_right (x : S16384x2048.Idx → EReal) (s : EReal) (w : S5632x2048.Idx → EReal) (s1 s2 : EReal) (g u : S16384x5632.Idx → EReal) (r : Fin 16384) (f : Fin 5632) :
    k0_pay4 (F := Ideal) x s w s1 s2 g u (ix2 r ⟨5632 + f.val, by omega⟩) = du (k0_pay3 (F := Ideal) x s w s1 s2 (ix2 r f)) (g (ix2 r f)) := by
  unfold k0_pay4
  generalize k0_pay3 (F := Ideal) x s w s1 s2 = D
  pointwise
  rfl

/-- A bound of the largest magnitude bounds the magnitude of every gradient of the two halves. -/
theorem amax_le (x : S16384x2048.Idx → EReal) (s : EReal) (w : S5632x2048.Idx → EReal) (s1 s2 : EReal) (gu : S16384x11264.Idx → EReal) (z : EReal) :
    k0_pay1 (F := Ideal) (k0_pay4 (F := Ideal) x s w s1 s2 (left (F := Ideal) gu) (right (F := Ideal) gu)) ≤ z
      ↔ ∀ (r : Fin 16384) (f : Fin 5632), mag (k0_pay3 (F := Ideal) x s w s1 s2 (ix2 r f)) (gu (ix2 r ⟨f.val, by omega⟩)) (gu (ix2 r ⟨5632 + f.val, by omega⟩)) ≤ z := by
  rw [pay1_le]
  have hl := fun r f => pay4_left x s w s1 s2 (left (F := Ideal) gu) (right (F := Ideal) gu) r f
  have hr := fun r f => pay4_right x s w s1 s2 (left (F := Ideal) gu) (right (F := Ideal) gu) r f
  generalize k0_pay4 (F := Ideal) x s w s1 s2 (left (F := Ideal) gu) (right (F := Ideal) gu) = H at hl hr ⊢
  constructor
  · intro h r f
    rw [mag_eq, max_le_iff]
    refine ⟨?_, ?_⟩
    · have e := h r ⟨f.val, by omega⟩
      rw [hl] at e
      exact e
    · have e := h r ⟨5632 + f.val, by omega⟩
      rw [hr] at e
      exact e
  · intro h r f
    by_cases hf : f.val < 5632
    · have e := h r ⟨f.val, hf⟩
      rw [mag_eq, max_le_iff] at e
      have e' := hl r ⟨f.val, hf⟩
      rw [show f = ⟨(⟨f.val, hf⟩ : Fin 5632).val, by omega⟩ from rfl, e']
      exact e.1
    · have hlt : f.val - 5632 < 5632 := by have := f.isLt; omega
      have e := h r ⟨f.val - 5632, hlt⟩
      rw [mag_eq, max_le_iff] at e
      have e' := hr r ⟨f.val - 5632, hlt⟩
      have ef : f = ⟨5632 + (⟨f.val - 5632, hlt⟩ : Fin 5632).val, by dsimp only; omega⟩ := Fin.ext (by dsimp only; omega)
      rw [ef, e']
      exact e.2

section Value
variable (m : (ℓ : Loc nD τ sig) → Buf (Elt Ideal) ℓ) (ρ : Dev nD → PrngReg)

/-- The one grid point. -/
abbrev t0 : Fin cfg0.N := ⟨0, by decide⟩

theorem idx3 : ∀ a, win0_3.index t0 a = 0 := by decide
theorem idx4 : ∀ a, win0_4.index t0 a = 0 := by decide
theorem idx5 : ∀ a, win0_5.index t0 a = 0 := by decide
theorem idx6 : ∀ a, win0_6.index t0 a = 0 := by decide
theorem idx7 : ∀ a, win0_7.index t0 a = 0 := by decide

theorem iblk0_apply (c : Dev nD) : (iblk m c 0 t0 : S1.Idx → EReal) (ix1 0) = (V m c main_v0 : S1.Idx → EReal) (ix1 0) := by
  show V m c main_v0 _ = V m c main_v0 _
  exact congrArg (V m c main_v0 : S1.Idx → EReal) (idx1_eq _ _)
theorem iblk1_apply (c : Dev nD) : (iblk m c 1 t0 : S1.Idx → EReal) (ix1 0) = (V m c main_v1 : S1.Idx → EReal) (ix1 0) := by
  show V m c main_v1 _ = V m c main_v1 _
  exact congrArg (V m c main_v1 : S1.Idx → EReal) (idx1_eq _ _)
theorem iblk2_apply (c : Dev nD) : (iblk m c 2 t0 : S1.Idx → EReal) (ix1 0) = (V m c main_v2 : S1.Idx → EReal) (ix1 0) := by
  show V m c main_v2 _ = V m c main_v2 _
  exact congrArg (V m c main_v2 : S1.Idx → EReal) (idx1_eq _ _)
theorem iblk3_eq (c : Dev nD) : (iblk m c 3 t0 : S16384x2048.Idx → EReal) = V m c main_v3 := by
  funext j
  show V m c main_v3 _ = V m c main_v3 _
  congr 1
  funext a
  apply Fin.ext
  match a with
  | ⟨0, _⟩ => show win0_3.index t0 0 * 16384 + 1 * (j 0).val = (j 0).val; rw [idx3]; omega
  | ⟨1, _⟩ => show win0_3.index t0 1 * 2048 + 1 * (j 1).val = (j 1).val; rw [idx3]; omega
theorem iblk4_eq (c : Dev nD) : (iblk m c 4 t0 : S16384x11264.Idx → EReal) = V m c main_v4 := by
  funext j
  show V m c main_v4 _ = V m c main_v4 _
  congr 1
  funext a
  apply Fin.ext
  match a with
  | ⟨0, _⟩ => show win0_4.index t0 0 * 16384 + 1 * (j 0).val = (j 0).val; rw [idx4]; omega
  | ⟨1, _⟩ => show win0_4.index t0 1 * 11264 + 1 * (j 1).val = (j 1).val; rw [idx4]; omega
theorem iblk5_eq (c : Dev nD) : (iblk m c 5 t0 : S5632x2048.Idx → EReal) = V m c main_arg5 := by
  funext j
  show V m c main_arg5 _ = V m c main_arg5 _
  congr 1
  funext a
  apply Fin.ext
  match a with
  | ⟨0, _⟩ => show win0_5.index t0 0 * 5632 + 1 * (j 0).val = (j 0).val; rw [idx5]; omega
  | ⟨1, _⟩ => show win0_5.index t0 1 * 2048 + 1 * (j 1).val = (j 1).val; rw [idx5]; omega

/-- The arguments as the region finds them. -/
abbrev inv (c : Dev nD) : EReal := (V m c main_v0 : S1.Idx → EReal) (ix1 0)
abbrev s1 (c : Dev nD) : EReal := (V m c main_v1 : S1.Idx → EReal) (ix1 0)
abbrev s2 (c : Dev nD) : EReal := (V m c main_v2 : S1.Idx → EReal) (ix1 0)
abbrev DY (c : Dev nD) : S16384x2048.Idx → EReal := V m c main_v3
abbrev GU (c : Dev nD) : S16384x11264.Idx → EReal := V m c main_v4
abbrev W2 (c : Dev nD) : S5632x2048.Idx → EReal := V m c main_arg5

theorem outs6 (c : Dev nD) : (outsAt0 m c t0).1 = k0_pay3 (F := Ideal) (DY m c) (inv m c) (W2 m c) (s1 m c) (s2 m c) := by
  unfold outsAt0
  dsimp only
  rw [da_A, iblk0_apply, iblk1_apply, iblk2_apply, iblk3_eq, iblk5_eq]

theorem outs7 (c : Dev nD) : (outsAt0 m c t0).2.1 = k0_pay2 (F := Ideal) (DY m c) (inv m c) := by
  unfold outsAt0
  dsimp only
  rw [codes_A, iblk0_apply, iblk3_eq]

theorem outs8 (c : Dev nD) (j : S1x1.Idx) : (outsAt0 m c t0).2.2 j
    = k0_pay1 (F := Ideal) (k0_pay4 (F := Ideal) (DY m c) (inv m c) (W2 m c) (s1 m c) (s2 m c) (left (F := Ideal) (GU m c)) (right (F := Ideal) (GU m c))) := by
  unfold outsAt0
  dsimp only
  rw [amax_A, iblk0_apply, iblk1_apply, iblk2_apply, iblk3_eq, iblk4_eq, iblk5_eq]

/-- The array of gradients at the end. -/
theorem arr6 (c : Dev nD) : (dats m 0 c).arrAt 6 cfg0.N = (outsAt0 m c t0).1 := by
  have h : ∀ y : S16384x5632.Idx, ((cfg0.win 6).blk t0).view.emb y = y := by
    intro y
    funext a
    apply Fin.ext
    match a with
    | ⟨0, _⟩ => show win0_6.index t0 0 * 16384 + 1 * (y 0).val = (y 0).val; rw [idx6]; omega
    | ⟨1, _⟩ => show win0_6.index t0 1 * 5632 + 1 * (y 1).val = (y 1).val; rw [idx6]; omega
  refine (dats m 0 c).arrAt_eq_of_cover 6 _ (fun t _ => ?_) fun i => ⟨t0, by decide, ?_⟩
  · obtain rfl : t = t0 := Fin.ext (by have := lt_of_lt_of_eq t.isLt N_0; show t.val = 0; omega)
    show (cfg0.win 6).cut (grid0.coords t0) ((dats m 0 c).after 6 t0) = _
    rw [after0_6]
    funext y
    show (outsAt0 m c t0).1 y = (outsAt0 m c t0).1 (((cfg0.win 6).blk t0).view.emb y)
    exact congrArg _ (h y).symm
  · have e := ((cfg0.win 6).blk t0).view.emb_mem_set i
    rwa [h] at e

/-- The array of codes at the end. -/
theorem arr7 (c : Dev nD) : (dats m 0 c).arrAt 7 cfg0.N = (outsAt0 m c t0).2.1 := by
  have h : ∀ y : S16384x2048.Idx, ((cfg0.win 7).blk t0).view.emb y = y := by
    intro y
    funext a
    apply Fin.ext
    match a with
    | ⟨0, _⟩ => show win0_7.index t0 0 * 16384 + 1 * (y 0).val = (y 0).val; rw [idx7]; omega
    | ⟨1, _⟩ => show win0_7.index t0 1 * 2048 + 1 * (y 1).val = (y 1).val; rw [idx7]; omega
  refine (dats m 0 c).arrAt_eq_of_cover 7 _ (fun t _ => ?_) fun i => ⟨t0, by decide, ?_⟩
  · obtain rfl : t = t0 := Fin.ext (by have := lt_of_lt_of_eq t.isLt N_0; show t.val = 0; omega)
    show (cfg0.win 7).cut (grid0.coords t0) ((dats m 0 c).after 7 t0) = _
    rw [after0_7]
    funext y
    show (outsAt0 m c t0).2.1 y = (outsAt0 m c t0).2.1 (((cfg0.win 7).blk t0).view.emb y)
    exact congrArg _ (h y).symm
  · have e := ((cfg0.win 7).blk t0).view.emb_mem_set i
    rwa [h] at e

/-- The one-element array at the end. -/
theorem arr8 (c : Dev nD) : (dats m 0 c).arrAt 8 cfg0.N = (outsAt0 m c t0).2.2 := by
  refine (dats m 0 c).arrAt_eq_of_cover 8 _ (fun t _ => ?_) fun i => ⟨t0, by decide, ?_⟩
  · obtain rfl : t = t0 := Fin.ext (by have := lt_of_lt_of_eq t.isLt N_0; show t.val = 0; omega)
    show (cfg0.win 8).cut (grid0.coords t0) ((dats m 0 c).after 8 t0) = _
    rw [after0_8]
    funext y
    show (outsAt0 m c t0).2.2 _ = (outsAt0 m c t0).2.2 _
    exact congrArg _ (AmaxIdeal.Fold.idx1_eq _ _)
  · have e := ((cfg0.win 8).blk t0).view.emb_mem_set (ix2 0 0)
    rwa [show ((cfg0.win 8).blk t0).view.emb (ix2 0 0) = i from AmaxIdeal.Fold.idx1_eq _ _] at e

/-- The region's results as the later host operations find them. -/
abbrev Vx (c : Dev nD) : Valuation τ sig (Elt Ideal) := Pipeline.withArrays cfg0.spec c (V0 m c) fun w => (dats m 0 c).arrAt w cfg0.N

theorem Vx_v5_2 (c : Dev nD) : Vx m c (Proc.devRef .tc main_v5_2) = (outsAt0 m c t0).2.2 :=
  (Pipeline.withArrays_arr cfg0.spec (by decide) c (V0 m c) _ 8).trans (arr8 m c)

/-- The largest magnitude as a scalar. -/
def top (c : Dev nD) : FVec Ideal S_ .f32 := fun _ => (outsAt0 m c t0).2.2 (ix2 0 0)

theorem tail_e (c : Dev nD) : (fun i => shapeCast main_v6.ty.shape (Vx m c (Proc.devRef .tc main_v5_2)) shapeCasts_S1x1_S_ i : FVec Ideal S_ .f32) = top m c := by
  rw [Vx_v5_2]
  exact AmaxIdeal.Fold.scalar _

theorem tail_scale (c : Dev nD) : Pipeline.afterTail₀ cfgs (dats m) 0 (V0 m) [hostOps1, hostOps1_1, hostOps1_2] c main_v23 = Scales.scale (top m c) := by
  unfold Pipeline.afterTail₀
  show StableHlo.after (List.flatten [hostOps1, hostOps1_1, hostOps1_2]) (Vx m c) (Proc.devRef .tc main_v23) = _
  have e := tail_e m c
  generalize Vx m c = W at e ⊢
  generalize top m c = x at e ⊢
  simp only [hostOps1, hostOps1_1, hostOps1_2, List.flatten_cons, List.flatten_nil, List.append_nil, List.cons_append, List.nil_append]
  after_results_simp
  rw [← e]
  rfl

theorem tail_inv (c : Dev nD) : Pipeline.afterTail₀ cfgs (dats m) 0 (V0 m) [hostOps1, hostOps1_1, hostOps1_2] c main_v27 = Scales.inv (top m c) := by
  unfold Pipeline.afterTail₀
  show StableHlo.after (List.flatten [hostOps1, hostOps1_1, hostOps1_2]) (Vx m c) (Proc.devRef .tc main_v27) = _
  have e := tail_e m c
  generalize Vx m c = W at e ⊢
  generalize top m c = x at e ⊢
  simp only [hostOps1, hostOps1_1, hostOps1_2, List.flatten_cons, List.flatten_nil, List.append_nil, List.cons_append, List.nil_append]
  after_results_simp
  rw [← e]
  rfl

/-- The run: the gradients, the codes, and the scale and inverse scale of the largest magnitude; the arguments unchanged. -/
theorem run : θ_run defs (onTc (τ := τ) (main (F := Ideal))) ⟨m, fun _ => 0, ρ⟩ fun r => ∀ c : Dev nD,
      r.2.mem ((c.tc : Thread nD τ).loc main_v5_0) = (outsAt0 m c t0).1
      ∧ r.2.mem ((c.tc : Thread nD τ).loc main_v5_1) = (outsAt0 m c t0).2.1
      ∧ r.2.mem ((c.tc : Thread nD τ).loc main_v23) = Scales.scale (top m c)
      ∧ r.2.mem ((c.tc : Thread nD τ).loc main_v27) = Scales.inv (top m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).1 6).trans (arr6 m c),
      ((h c).1 7).trans (arr7 m c),
      ((h c).2 main_v23 (Pipeline.mem_restRefs_of main_v23 (by decide) (by decide))).trans (tail_scale m c),
      ((h c).2 main_v27 (Pipeline.mem_restRefs_of main_v27 (by decide) (by decide))).trans (tail_inv m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Value

end Cert.DaRefIdeal.Whole

namespace Cert

/-! The arguments as the two regions find them. -/

theorem kDY (m : (ℓ : Loc DaIdeal.nD DaIdeal.τ DaIdeal.sig) → Buf (Elt Ideal) ℓ) (c : Dev DaIdeal.nD) :
    DaIdeal.Fold.DY m c = shapeCast DaIdeal.S16384x2048 (m ((c.tc : Thread DaIdeal.nD DaIdeal.τ).loc DaIdeal.main_arg3)) DaIdeal.Gen.shapeCasts_S16x1024x2048_S16384x2048 := by
  unfold DaIdeal.Fold.DY
  entry_read
  try rfl

theorem kGU (m : (ℓ : Loc DaIdeal.nD DaIdeal.τ DaIdeal.sig) → Buf (Elt Ideal) ℓ) (c : Dev DaIdeal.nD) :
    DaIdeal.Fold.GU m c = shapeCast DaIdeal.S16384x11264 (m ((c.tc : Thread DaIdeal.nD DaIdeal.τ).loc DaIdeal.main_arg4)) DaIdeal.Gen.shapeCasts_S16x1024x11264_S16384x11264 := by
  unfold DaIdeal.Fold.GU
  entry_read
  try rfl

theorem rDY (m : (ℓ : Loc DaRefIdeal.nD DaRefIdeal.τ DaRefIdeal.sig) → Buf (Elt Ideal) ℓ) (c : Dev DaRefIdeal.nD) :
    DaRefIdeal.Whole.DY m c = shapeCast DaRefIdeal.S16384x2048 (m ((c.tc : Thread DaRefIdeal.nD DaRefIdeal.τ).loc DaRefIdeal.main_arg3)) DaRefIdeal.Gen.shapeCasts_S16x1024x2048_S16384x2048 := by
  unfold DaRefIdeal.Whole.DY
  entry_read
  try rfl

theorem rGU (m : (ℓ : Loc DaRefIdeal.nD DaRefIdeal.τ DaRefIdeal.sig) → Buf (Elt Ideal) ℓ) (c : Dev DaRefIdeal.nD) :
    DaRefIdeal.Whole.GU m c = shapeCast DaRefIdeal.S16384x11264 (m ((c.tc : Thread DaRefIdeal.nD DaRefIdeal.τ).loc DaRefIdeal.main_arg4)) DaRefIdeal.Gen.shapeCasts_S16x1024x11264_S16384x11264 := by
  unfold DaRefIdeal.Whole.GU
  entry_read
  try rfl

/-- Two scalars as a vector of two. -/
def stack (x y : FVec Ideal DaIdeal.S_ .f32) : FVec Ideal DaIdeal.S2 .f32 :=
  concatenate DaIdeal.S2 0 [⟨DaIdeal.S1, broadcastInDim DaIdeal.S1 ![] DaIdeal.Gen.bcast_S_S1 x⟩, ⟨DaIdeal.S1, broadcastInDim DaIdeal.S1 ![] DaIdeal.Gen.bcast_S_S1 y⟩] DaIdeal.Gen.concatenates_S1_S1_S2_d0

theorem kSC (m : (ℓ : Loc DaIdeal.nD DaIdeal.τ DaIdeal.sig) → Buf (Elt Ideal) ℓ) (c : Dev DaIdeal.nD) :
    DaIdeal.Fold.SC m c = stack (m ((c.tc : Thread DaIdeal.nD DaIdeal.τ).loc DaIdeal.main_arg0)) (mulf (φ := .f32) (s := DaIdeal.S_) (m ((c.tc : Thread DaIdeal.nD DaIdeal.τ).loc DaIdeal.main_arg1)) (m ((c.tc : Thread DaIdeal.nD DaIdeal.τ).loc DaIdeal.main_arg2))) := by
  unfold DaIdeal.Fold.SC
  entry_read
  rfl

theorem rS0 (m : (ℓ : Loc DaRefIdeal.nD DaRefIdeal.τ DaRefIdeal.sig) → Buf (Elt Ideal) ℓ) (c : Dev DaRefIdeal.nD) :
    (DaRefIdeal.Gen.V m c DaRefIdeal.main_v0 : DaRefIdeal.S1.Idx → EReal) = broadcastInDim DaRefIdeal.S1 ![] DaRefIdeal.Gen.bcast_S_S1 (m ((c.tc : Thread DaRefIdeal.nD DaRefIdeal.τ).loc DaRefIdeal.main_arg0)) := by
  entry_read
  try rfl

theorem rS1 (m : (ℓ : Loc DaRefIdeal.nD DaRefIdeal.τ DaRefIdeal.sig) → Buf (Elt Ideal) ℓ) (c : Dev DaRefIdeal.nD) :
    (DaRefIdeal.Gen.V m c DaRefIdeal.main_v1 : DaRefIdeal.S1.Idx → EReal) = broadcastInDim DaRefIdeal.S1 ![] DaRefIdeal.Gen.bcast_S_S1 (m ((c.tc : Thread DaRefIdeal.nD DaRefIdeal.τ).loc DaRefIdeal.main_arg1)) := by
  entry_read
  try rfl

theorem rS2 (m : (ℓ : Loc DaRefIdeal.nD DaRefIdeal.τ DaRefIdeal.sig) → Buf (Elt Ideal) ℓ) (c : Dev DaRefIdeal.nD) :
    (DaRefIdeal.Gen.V m c DaRefIdeal.main_v2 : DaRefIdeal.S1.Idx → EReal) = broadcastInDim DaRefIdeal.S1 ![] DaRefIdeal.Gen.bcast_S_S1 (m ((c.tc : Thread DaRefIdeal.nD DaRefIdeal.τ).loc DaRefIdeal.main_arg2)) := by
  entry_read
  try rfl

section
variable (m : (ℓ : Loc DaIdeal.nD DaIdeal.τ DaIdeal.sig) → Buf (Elt Ideal) ℓ)
    (m' : (ℓ : Loc DaRefIdeal.nD DaRefIdeal.τ DaRefIdeal.sig) → Buf (Elt Ideal) ℓ) (c : Dev DaIdeal.nD)

/-- The two programs' arguments agree. -/
abbrev AgreeDa : Prop :=
  m' ((c.tc : Thread DaRefIdeal.nD DaRefIdeal.τ).loc DaRefIdeal.main_arg0) = m ((c.tc : Thread DaIdeal.nD DaIdeal.τ).loc DaIdeal.main_arg0)
  ∧ m' ((c.tc : Thread DaRefIdeal.nD DaRefIdeal.τ).loc DaRefIdeal.main_arg1) = m ((c.tc : Thread DaIdeal.nD DaIdeal.τ).loc DaIdeal.main_arg1)
  ∧ m' ((c.tc : Thread DaRefIdeal.nD DaRefIdeal.τ).loc DaRefIdeal.main_arg2) = m ((c.tc : Thread DaIdeal.nD DaIdeal.τ).loc DaIdeal.main_arg2)
  ∧ m' ((c.tc : Thread DaRefIdeal.nD DaRefIdeal.τ).loc DaRefIdeal.main_arg3) = m ((c.tc : Thread DaIdeal.nD DaIdeal.τ).loc DaIdeal.main_arg3)
  ∧ m' ((c.tc : Thread DaRefIdeal.nD DaRefIdeal.τ).loc DaRefIdeal.main_arg4) = m ((c.tc : Thread DaIdeal.nD DaIdeal.τ).loc DaIdeal.main_arg4)
  ∧ m' ((c.tc : Thread DaRefIdeal.nD DaRefIdeal.τ).loc DaRefIdeal.main_arg5) = m ((c.tc : Thread DaIdeal.nD DaIdeal.τ).loc DaIdeal.main_arg5)

variable {m m' c}

theorem da_DY (h : AgreeDa m m' c) : DaRefIdeal.Whole.DY m' c = DaIdeal.Fold.DY m c := by
  rw [rDY, kDY, h.2.2.2.1]

theorem da_GU (h : AgreeDa m m' c) : DaRefIdeal.Whole.GU m' c = DaIdeal.Fold.GU m c := by
  rw [rGU, kGU, h.2.2.2.2.1]

theorem da_W2 (h : AgreeDa m m' c) : DaRefIdeal.Whole.W2 m' c = DaIdeal.Fold.W2 m c := by
  unfold DaRefIdeal.Whole.W2 DaIdeal.Fold.W2
  rw [DaRefIdeal.Gen.V_main_arg5, DaIdeal.Gen.V_main_arg5]
  exact h.2.2.2.2.2

/-- A scalar's one-element vector. -/
theorem bc_apply (x : FVec Ideal DaRefIdeal.S_ .f32) :
    (broadcastInDim DaRefIdeal.S1 ![] DaRefIdeal.Gen.bcast_S_S1 x : DaRefIdeal.S1.Idx → EReal) (ix1 0) = x ix0 := by
  pointwise

theorem stack_0 (x y : FVec Ideal DaIdeal.S_ .f32) : (stack x y : DaIdeal.S2.Idx → EReal) (ix1 0) = x ix0 := by
  pointwise [stack]

theorem stack_1 (x y : FVec Ideal DaIdeal.S_ .f32) : (stack x y : DaIdeal.S2.Idx → EReal) (ix1 1) = y ix0 := by
  pointwise [stack]

theorem da_inv (h : AgreeDa m m' c) : DaRefIdeal.Whole.inv m' c = DaIdeal.Fold.SC m c (ix1 0) := by
  unfold DaRefIdeal.Whole.inv
  rw [rS0, kSC, h.1]
  exact (bc_apply _).trans (stack_0 _ _).symm

theorem da_s (h : AgreeDa m m' c) : DaRefIdeal.Whole.s1 m' c * DaRefIdeal.Whole.s2 m' c = DaIdeal.Fold.SC m c (ix1 1) := by
  unfold DaRefIdeal.Whole.s1 DaRefIdeal.Whole.s2
  rw [rS1, rS2, kSC, h.2.1, h.2.2.1]
  refine (congrArg₂ (fun a b : EReal => a * b) (bc_apply _) (bc_apply _)).trans ?_
  rw [stack_1]
  rfl

theorem da_da (h : AgreeDa m m' c) (r : Fin 16384) (f : Fin 5632) :
    DaRefIdeal.Gen.k0_pay3 (F := Ideal) (DaRefIdeal.Whole.DY m' c) (DaRefIdeal.Whole.inv m' c) (DaRefIdeal.Whole.W2 m' c) (DaRefIdeal.Whole.s1 m' c) (DaRefIdeal.Whole.s2 m' c) (ix2 r f)
      = DaIdeal.Fold.DA m c r f := by
  rw [DaRefIdeal.Whole.pay3_apply, da_s h, da_inv h, da_W2 h, da_DY h]
  rfl

/-- The gradients agree. -/
theorem da_eq5 (h : AgreeDa m m' c) : (DaRefIdeal.Gen.outsAt0 m' c DaRefIdeal.Whole.t0).1 = fun i : DaIdeal.S16384x5632.Idx => DaIdeal.Fold.DA m c (i 0) (i 1) := by
  rw [DaRefIdeal.Whole.outs6]
  funext i
  exact (congrArg _ (DaIdeal.Fold.ix_eta i)).trans (da_da h (i 0) (i 1))

/-- The codes agree. -/
theorem da_eq6 (h : AgreeDa m m' c) : (DaRefIdeal.Gen.outsAt0 m' c DaRefIdeal.Whole.t0).2.1 = fun i : DaIdeal.S16384x2048.Idx => DaIdeal.Fold.CO m c (i 0) (i 1) := by
  rw [DaRefIdeal.Whole.outs7]
  funext i
  refine (congrArg _ (DaIdeal.Fold.ix_eta i)).trans ((DaRefIdeal.Whole.pay2_apply _ _ (i 0) (i 1)).trans ?_)
  rw [da_inv h, da_DY h]
  rfl

/-- The largest magnitudes agree: they have the same bounds. -/
theorem da_top (h : AgreeDa m m' c) : DaRefIdeal.Whole.top m' c = DaIdeal.Fold.top m c := by
  funext i
  refine eq_of_forall_ge_iff fun z => ?_
  unfold DaRefIdeal.Whole.top DaIdeal.Fold.top
  rw [DaRefIdeal.Whole.outs8, DaRefIdeal.Whole.amax_le, DaIdeal.Fold.A7_le]
  simp only [da_da h, da_GU h]
  exact ⟨fun e => ⟨(Quant.mag_nonneg _ _ _).trans (e 0 0), e⟩, fun e => e.2⟩

end

/-- The kernel `da` and the reference end with the same gradients, the same codes, the same scale and inverse scale. -/
theorem algebraic_da : algebraic_DaIdeal_DaRefIdeal (hDaIdeal := DaIdeal.Gen.facts) (hDaRefIdeal := DaRefIdeal.Gen.facts) := by
  intro m g m' g' _ hagree
  refine ⟨_, _, _, _, DaIdeal.Fold.run m g,
    (θ_run _ _ _).mono (fun r h c => ⟨(h c).1.trans ?_, (h c).2.1.trans ?_, (h c).2.2.1.trans ?_, (h c).2.2.2.1.trans ?_, (h c).2.2.2.2⟩) (DaRefIdeal.Whole.run m' g')⟩
  · exact da_eq5 (hagree c)
  · exact da_eq6 (hagree c)
  · rw [da_top (hagree c)]
  · rw [da_top (hagree c)]

end Cert

end
-- ==== Proof.DxIdealRun.lean ====
module

public import proofs.«01_k».proof.Proof.Gen.DxIdeal.Skeleton
public import proofs.«01_k».proof.Proof.Gen.DxIdeal.Frame

@[expose] public section

set_option maxRecDepth 16384

/-!
# `DxIdeal`'s kernel run on any buffers

The kernel's grid has 64 × 2 points. At a point of the first column the kernel only stores its half of the
quantised blocks; at a point of the second column it stores the other half, then reads the whole block of codes
back and multiplies it. `runA` and `runB` say what the stores leave in the two outputs, as lists of pieces
(the last store first), whatever the block of codes held before (`x6`).
-/

noncomputable section

namespace Cert.DxIdeal.Body

open Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The second grid coordinate is one: the point also multiplies. -/
abbrev last (i : grid0.Coords) : Prop := k0_cond1 i = 1#1

/-- These are the points of odd number. -/
theorem last_iff : ∀ t : Fin cfg0.N, last (grid0.coords t) ↔ t.val % 2 = 1 :=
  (fun t => by
    have ht : t.val < 128 := Nat.lt_of_lt_of_eq t.isLt N_0
    have e1 : (grid0.coords t 1).val = t.val / 1 % 2 := Pipeline.Grid.coords_val t 1 (by decide) rfl
    simp only [last, k0_cond1, e1]
    word_cmp
   : ∀ t : Fin grid0.N, last (grid0.coords t) ↔ t.val % 2 = 1)

set_option maxHeartbeats 4000000 in
/-- What the body stores at a point of the first column. -/
noncomputable def runA (c : Dev nD) (i : grid0.Coords) (arg2 : Memref sig .tc .smem S2 .f32) (harg2 : arg2.IsWhole) (arg3 : Memref sig .tc .vmem S256x2816 .f32) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S2048x11264 .fp8e4m3) (harg6 : arg6.IsWhole) (arg7 : Memref sig .tc .vmem S256x2048 .bf16) (harg7 : arg7.IsWhole) (arg8 : Memref sig .tc .vmem S256x11264 .fp8e5m2) (harg8 : arg8.IsWhole) (hc : ¬last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    { L6 : List (View.Piece (Elt F) S256x11264 .fp8e5m2) //
      ∀ (x5 : Vec F S256x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dx i arg2 harg2 arg3 harg3 arg4 harg4 arg5 harg5 arg6 harg6 arg7 harg7 arg8 harg8) K } := by
  refine ⟨?_, fun x5 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact H6

set_option maxHeartbeats 4000000 in
/-- What the body stores at a point of the second column. -/
noncomputable def runB (c : Dev nD) (i : grid0.Coords) (arg2 : Memref sig .tc .smem S2 .f32) (harg2 : arg2.IsWhole) (arg3 : Memref sig .tc .vmem S256x2816 .f32) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S2048x11264 .fp8e4m3) (harg6 : arg6.IsWhole) (arg7 : Memref sig .tc .vmem S256x2048 .bf16) (harg7 : arg7.IsWhole) (arg8 : Memref sig .tc .vmem S256x11264 .fp8e5m2) (harg8 : arg8.IsWhole) (hc : last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    Σ' (L5 : List (View.Piece (Elt F) S256x2048 .bf16)), { L6 : List (View.Piece (Elt F) S256x11264 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dx i arg2 harg2 arg3 harg3 arg4 harg4 arg5 harg5 arg6 harg6 arg7 harg7 arg8 harg8) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact H6

end Cert.DxIdeal.Body

end
-- ==== Proof.DxIdealBody.lean ====
module

public import proofs.«01_k».proof.Proof.DxIdealRun
public import Idealize.ShloMosaic.Lib.Pipeline.DatRel
public import Idealize.ShloMosaic.Lib.Pipeline.ArrRel
public import Idealize.ShloMosaic.Lib.Pipeline.FrameBody

@[expose] public section

set_option maxRecDepth 16384

/-!
# The frame of `DxIdeal`

The block of codes is stored in two halves, one at each of two neighbouring points, over contents that nobody
names, so what the first of them leaves is not a function of the arguments. It is held to a predicate `R6`
instead, and so is the block of results `R5`. `sound` runs the body for any two predicates that the stores
establish, and `run_main` runs the whole program for them.
-/

noncomputable section

namespace Cert.DxIdeal.Body

open Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's buffer at a point. -/
abbrev ms0 (t : Fin cfg0.N) : Memref sig .tc .smem S2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2816 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x11264 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x11264 .fp8e5m2 := win0_6.stage (cfg0.slots t 6)
abbrev hs6 (t : Fin cfg0.N) : (ms6 t).IsWhole := hstage0_6 ((cfg0.slots t 6).cast nbuf0_6)

/-- The proof data: the inputs stay in place; what is said here of the two outputs is not used. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Classical.arbitrary _
    | ⟨6, _⟩ => Classical.arbitrary _
  Φ _ := Pipeline.ΦA spec0 c
  q w := Pipeline.shareOf spec0 w
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- The two outputs are held to predicates. -/
def mask : Fin cfg0.W → Bool := fun
  | ⟨0, _⟩ => false | ⟨1, _⟩ => false | ⟨2, _⟩ => false | ⟨3, _⟩ => false | ⟨4, _⟩ => false
  | ⟨5, _⟩ => true | ⟨6, _⟩ => true

variable (R5 : Fin cfg0.N → Vec F S256x2048 .bf16 → Prop) (R6 : Fin cfg0.N → Vec F S256x11264 .fp8e5m2 → Prop)

/-- The predicates, window by window. -/
def Rl : (w : Fin cfg0.W) → Fin cfg0.N → ((cfg0.win w).block.Idx → Elt F (cfg0.win w).elt) → Prop := fun
  | ⟨0, _⟩ => fun _ _ => True | ⟨1, _⟩ => fun _ _ => True | ⟨2, _⟩ => fun _ _ => True
  | ⟨3, _⟩ => fun _ _ => True | ⟨4, _⟩ => fun _ _ => True
  | ⟨5, _⟩ => fun t X => R5 t X | ⟨6, _⟩ => fun t X => R6 t X

/-- The relational proof data. -/
abbrev rdat (c : Dev nD) : RDat τ (Elt F) Unit ℕ (UR sig nD τ) ℕ cfg0 c := (dat m c).toRRel mask (Rl R5 R6)

/-- The pieces stored at a point of the first column. -/
abbrev LA (c : Dev nD) (t : Fin cfg0.N) (h : ¬last (grid0.coords t)) (x6 : Vec F S256x11264 .fp8e5m2) :=
  (runA c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) (iblk m c 4 t) x6)
/-- The pieces stored at a point of the second column. -/
abbrev LB (c : Dev nD) (t : Fin cfg0.N) (h : last (grid0.coords t)) (x6 : Vec F S256x11264 .fp8e5m2) :=
  (runB c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) (iblk m c 4 t) x6)

/-- What the stores have to establish of the two predicates. -/
structure Good (c : Dev nD) : Prop where
  first5 : ∀ t : Fin cfg0.N, ¬last (grid0.coords t) → ∀ x, R5 t x
  first6 : ∀ (t : Fin cfg0.N) (h : ¬last (grid0.coords t)) (x6 : Vec F S256x11264 .fp8e5m2),
    R6 t ((ms6 t).view.read (Elt F) ((ms6 t).view.writes (Elt F) ((hs6 t).unread x6) (LA m c t h x6).1))
  last5 : ∀ (t : Fin cfg0.N) (h : last (grid0.coords t)) (x6 : Vec F S256x11264 .fp8e5m2),
    R6 ⟨t.val - 1, Nat.lt_of_le_of_lt (Nat.sub_le _ _) t.isLt⟩ x6 → ∀ f,
    R5 t ((ms5 t).view.read (Elt F) ((ms5 t).view.writes (Elt F) f (LB m c t h x6).1))
  last6 : ∀ (t : Fin cfg0.N) (h : last (grid0.coords t)) (x6 : Vec F S256x11264 .fp8e5m2),
    R6 ⟨t.val - 1, Nat.lt_of_le_of_lt (Nat.sub_le _ _) t.isLt⟩ x6 →
    R6 t ((ms6 t).view.read (Elt F) ((ms6 t).view.writes (Elt F) ((hs6 t).unread x6) (LB m c t h x6).2.1))

/-- At a point of the second column the block of codes is as the point before left it. -/
theorem found (c : Dev nD) (t : Fin cfg0.N) (h : last (grid0.coords t)) (X : Vec F S256x11264 .fp8e5m2)
    (hX : (rdat m R5 R6 c).Finds 6 t X) : R6 ⟨t.val - 1, Nat.lt_of_le_of_lt (Nat.sub_le _ _) t.isLt⟩ X := by
  have ht : t.val % 2 = 1 := (last_iff t).mp h
  rcases ((rdat m R5 R6 c).finds_of_pos (w := 6) (t := t) rfl (by omega) X).mp hX with hf | hl
  · have := (flush0_6 _).mp hf
    dsimp only at this
    omega
  · exact (dat m c).toRRel_leaves (fgt := mask) (Rl := Rl R5 R6) (w := 6) rfl hl

/-- What the body is called with at a point. -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ Y, ⌜(rdat m R5 R6 c).Finds 5 t Y⌝ ∗ owns (c : Thread nD τ) (ms5 t) fullShare Y)
    ∗ (∃ Y, ⌜(rdat m R5 R6 c).Finds 6 t Y⌝ ∗ owns (c : Thread nD τ) (ms6 t) fullShare Y))

/-- What it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ (∃ X, ⌜R5 t X⌝ ∗ owns (c : Thread nD τ) (ms5 t) fullShare X)
    ∗ (∃ X, ⌜R6 t X⌝ ∗ owns (c : Thread nD τ) (ms6 t) fullShare X))

variable {R5 R6}

set_option maxHeartbeats 4000000 in
/-- The body at any point. -/
theorem sound (c : Dev nD) (hg : Good m R5 R6 c) (t : Fin cfg0.N) :
    bodyPre m R5 R6 c t ⊢ wp frame (wpE (defs₀ (F := F)) Variants.none c none) Set.univ (bodyAt0 t) (fun _ => bodyPost m R5 R6 c t) := by
  unfold bodyPre bodyPost bodyAt0
  simp only [before_0, before_1, before_2, before_3, before_4, after_0, after_1, after_2, after_3, after_4]
  rw [show (dat m c).owesAt () t.succ = (dat m c).owesAt () t.castSucc from rfl]
  rw [show (dat m c).Φ t.succ = (dat m c).Φ t.castSucc from rfl]
  iintro ⟨HΦ, Ho, ⟨%d0, H0⟩, ⟨%d1, H1⟩, ⟨%d2, H2⟩, ⟨%d3, H3⟩, ⟨%d4, H4⟩, ⟨%x5, %hx5, H5⟩, ⟨%x6, %hx6, H6⟩⟩
  by_cases h : last (grid0.coords t)
  · have hp := found m R5 R6 c t h x6 hx6
    iapply ((LB m c t h x6).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%f, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact hg.last5 t h x6 hp f
      unfold owns; iexists _; isplitr
      swap; · iexact H5
      ipureintro; rfl
    iexists _; isplitr
    · ipureintro; exact hg.last6 t h x6 hp
    unfold owns; iexists _; isplitr
    swap; · iexact H6
    ipureintro; rfl
  · iapply ((LA m c t h x6).2 x5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact hg.first5 t h x5
      iexact H5
    iexists _; isplitr
    · ipureintro; exact hg.first6 t h x6
    unfold owns; iexists _; isplitr
    swap; · iexact H6
    ipureintro; rfl

/-- The body table's row at a point is the body there. -/
theorem row (t : Fin cfg0.N) :
    defs₀ (F := F) .tc cfg0.body (cfg0.bodyArgs t (cfg0.slots t)) = bodyAt0 t := by
  unfold defs₀; rw [Defs.onTc_tc]

/-- The body obligation. -/
theorem obligation (c : Dev nD) (hg : Good m R5 R6 c) :
    BodyObligationRel (dat (F := F) m c) (defs₀ (F := F)) Variants.none () Set.univ mask (Rl R5 R6) := fun t => by
  rw [bigSep_W0, bigSep_W0, row]
  exact triple_restated (sound m c hg t) rfl .rfl fun _ => .rfl

set_option backward.isDefEq.respectTransparency.types false in
set_option maxHeartbeats 800000 in
/-- Every run ends, every counter is back at zero, and the arrays hold what the predicates allow. -/
theorem run_main (hg : ∀ c, Good m R5 R6 c) :
    θ_run defs (onTc (τ := τ) (main (F := F))) (s₀ m ρ)
      (fun r => RDat.FramePost cfg0 (rdat m R5 R6) (V m) r ∧ r.2.sem = fun _ => 0) :=
  Pipeline.RDat.θ_run_frame_track_shared (Q' := _) cfgs (0 : Fin 1) launch₀0 defs₀ Variants.none (rdat m R5 R6) m ρ main
    (hbody := fun c => (obligation m c (hg c)).toRRel) (hq := fun _ _ _ => rfl)
    (howed := fun _ _ => rfl) (V := V m)
    (hmain := hmain m Variants.none) (hA := A_eq m) (hin := fun _ => .rfl) (hout := fun _ => .rfl)
    (hQ' := fun _ h => h)

/-- The argument arrays end unchanged. -/
theorem args_of_post {r : PUnit × MemSt nD τ sig (Elt F)} (h : RDat.FramePost cfg0 (rdat m R5 R6) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (RDat.FramePost.arr_in h c 1 rfl).trans ((A_eq m c 1).trans (V_main_arg3 m c)),
   ((h c).2 main_arg4 (Pipeline.mem_restRefs_of main_arg4 (by decide) (by decide))).trans (V_main_arg4 m c),
   (RDat.FramePost.arr_in h c 4 rfl).trans ((A_eq m c 4).trans (V_main_arg5 m c))⟩

/-- The frame: nothing is needed of the predicates, so both are taken to hold of everything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m h.1 c, h.2⟩)
    (run_main m ρ (R5 := fun _ _ => True) (R6 := fun _ _ => True)
      fun _ => ⟨fun _ _ _ => trivial, fun _ _ _ => trivial, fun _ _ _ _ _ => trivial, fun _ _ _ _ => trivial⟩)

end Cert.DxIdeal.Body

end
-- ==== Proof.DxKernel.lean ====
/-
  What the stores of the kernel `dx` leave: the two halves' codes of a point, as pieces of one array, and the four
  column blocks of the product.
-/
module

public import proofs.«01_k».proof.Proof.DxIdealBody
public import Idealize.ShloMosaic.Lib.Pipeline.Value
public import Idealize.ShloMosaic.Lib.Pipeline.ReadBack
public import Idealize.ShloMosaic.Lib.Pointwise
public import Idealize.ShloMosaic.Lib.Tactic

@[expose] public section

noncomputable section

open Idealize.ShloMosaic Idealize.ShloMosaic.TcCoe Idealize.SL.Sem

namespace Cert.DxIdeal.Fold

open Cert.DxIdeal Cert.DxIdeal.Gen Cert.DxIdeal.Body

variable {F : FTy → Type} [FloatOps F]

theorem hz : (![0, 0] : Fin 2 → Nat) = fun _ => 0 := funext fun a => by fin_cases a <;> rfl

/-- Columns `256 k` to `256 k + 255`. -/
def cols {e : EltTy} (k : Fin 11) (x : Vec F S256x2816 e) : Vec F S256x256 e :=
  fun j => x (ix2 (j 0) ⟨256 * k.val + (j 1).val, by have := k.isLt; have : (j 1).val < 256 := (j 1).isLt; omega⟩)

/-- Rows `512 k` to `512 k + 511`. -/
def rows {e : EltTy} (k : Fin 4) (x : Vec F S2048x11264 e) : Vec F S512x11264 e :=
  fun j => x (ix2 ⟨512 * k.val + (j 0).val, by have := k.isLt; have : (j 0).val < 512 := (j 0).isLt; omega⟩ (j 1))

theorem ld_cols {e : EltTy} (k : Fin 11) (o : ℕ) (ho : o = 256 * k.val) (x : Vec F S256x2816 e) (h) :
    View.ld x (Rect.unit (s := S256x2816) ![0, o] ![256, 256] h) = cols k x := by
  subst ho
  funext j
  refine congrArg x (funext fun a => Fin.ext ?_)
  match a with
  | ⟨0, _⟩ => show 0 + 1 * (j 0).val = (j 0).val; omega
  | ⟨1, _⟩ => show 256 * k.val + 1 * (j 1).val = 256 * k.val + (j 1).val; omega

theorem ld_rows {e : EltTy} (k : Fin 4) (o : ℕ) (ho : o = 512 * k.val) (x : Vec F S2048x11264 e) (h) :
    View.ld x (Rect.unit (s := S2048x11264) ![o, 0] ![512, 11264] h) = rows k x := by
  subst ho
  funext j
  refine congrArg x (funext fun a => Fin.ext ?_)
  match a with
  | ⟨0, _⟩ => show 512 * k.val + 1 * (j 0).val = 512 * k.val + (j 0).val; omega
  | ⟨1, _⟩ => show 0 + 1 * (j 1).val = (j 1).val; omega

theorem ld_s0 (x : Vec F S2 .f32) (h) (j) : View.ld x (Rect.unit (s := S2) ![0] ![1] h) j = x (ix1 0) := by
  refine congrArg x (funext fun a => Fin.ext ?_)
  match a with
  | ⟨0, _⟩ => show 0 + 1 * (j 0).val = 0; have : (j 0).val < 1 := (j 0).isLt; omega
theorem ld_s1 (x : Vec F S2 .f32) (h) (j) : View.ld x (Rect.unit (s := S2) ![1] ![1] h) j = x (ix1 1) := by
  refine congrArg x (funext fun a => Fin.ext ?_)
  match a with
  | ⟨0, _⟩ => show 1 + 1 * (j 0).val = 1; have : (j 0).val < 1 := (j 0).isLt; omega

section Chunks
variable (s : F .f32) (g u : Vec F S256x256 .bf16) (d : Vec F S256x256 .f32)
variable (C : Vec F S256x11264 .fp8e5m2) (w : Vec F S512x11264 .fp8e4m3)

/-! Each chunk's lines are one formula. -/
theorem dg1 : k0_pay16 s g u d = k0_pay11 s g u d := rfl
theorem du1 : k0_pay17 s g d = k0_pay12 s g d := rfl
theorem dg2 : k0_pay21 s g u d = k0_pay11 s g u d := rfl
theorem du2 : k0_pay22 s g d = k0_pay12 s g d := rfl
theorem dg3 : k0_pay26 s (k0_pay23 g) u d = k0_pay11 s g u d := rfl
theorem du3 : k0_pay27 s (k0_pay23 g) d = k0_pay12 s g d := rfl
theorem dg4 : k0_pay32 s (k0_pay28 g) (k0_pay29 u) d = k0_pay11 s g u d := rfl
theorem du4 : k0_pay33 s (k0_pay28 g) d = k0_pay12 s g d := rfl
theorem dg5 : k0_pay38 s (k0_pay34 g) (k0_pay35 u) (k0_pay36 g) d = k0_pay11 s g u d := rfl
theorem du5 : k0_pay39 s (k0_pay34 g) (k0_pay36 g) d = k0_pay12 s g d := rfl
theorem dg6 : k0_pay44 s (k0_pay40 g) (k0_pay41 u) (k0_pay42 g) (k0_pay43 g d) = k0_pay11 s g u d := rfl
theorem du6 : k0_pay45 s (k0_pay40 g) (k0_pay43 g d) = k0_pay12 s g d := rfl
theorem dg7 : k0_pay51 s (k0_pay47 u) (k0_pay49 g d) (k0_pay50 g) = k0_pay11 s g u d := rfl
theorem du7 : k0_pay52 s (k0_pay46 g) (k0_pay49 g d) = k0_pay12 s g d := rfl
theorem dg8 : k0_pay57 s (k0_pay55 g d) (k0_pay56 g u) = k0_pay11 s g u d := rfl
theorem du8 : k0_pay58 s (k0_pay53 g) (k0_pay55 g d) = k0_pay12 s g d := rfl
theorem dg9 : k0_pay63 (k0_pay62 s g u d) (FloatOps.ofBits .f32 0xC7600000#32) = k0_pay11 s g u d := rfl
theorem du9 : k0_pay64 s (k0_pay59 g) (k0_pay61 g d) = k0_pay12 s g d := rfl
theorem dg10 : k0_pay1 (k0_pay68 s g u d) k0_pay69 = k0_pay11 s g u d := rfl
theorem du10 : k0_pay2 s (k0_pay65 g) (k0_pay67 g d) = k0_pay12 s g d := rfl
theorem pay7_eq : k0_pay7 C = C := shapeCast_self _ _
theorem pay4_eq : k0_pay4 C w s = k0_pay3 C w s := by unfold k0_pay4; rw [shapeCast_self]; rfl
theorem pay5_eq : k0_pay5 C w s = k0_pay3 C w s := by unfold k0_pay5; rw [shapeCast_self]; rfl
theorem pay6_eq : k0_pay6 C w s = k0_pay3 C w s := by unfold k0_pay6; rw [shapeCast_self]; rfl

end Chunks

/-! ## Where the codes go -/

/-- The second grid coordinate. -/
abbrev half (i : grid0.Coords) : ℕ := (i 1).val

theorem half_lt (i : grid0.Coords) : half i < 2 := (i 1).isLt

/-- A chunk's first column in the left half of the codes. -/
abbrev og (i : grid0.Coords) (k : Fin 11) : ℕ :=
  BitVec.toNat (Scalar.indexCast (Scalar.addi (Scalar.muli (BitVec.ofNat 32 (i 1).val) 2816#32) (BitVec.ofNat 32 (256 * k.val))))
/-- … and in the right half. -/
abbrev ou (i : grid0.Coords) (k : Fin 11) : ℕ :=
  BitVec.toNat (Scalar.indexCast (Scalar.addi (Scalar.addi (Scalar.muli (BitVec.ofNat 32 (i 1).val) 2816#32) (BitVec.ofNat 32 (256 * k.val))) 5632#32))

theorem og_eq (i : grid0.Coords) (k : Fin 11) : og i k = 2816 * half i + 256 * k.val :=
  (by decide : ∀ (j : Fin 2) (k : Fin 11), BitVec.toNat (Scalar.indexCast (Scalar.addi (Scalar.muli (BitVec.ofNat 32 j.val) 2816#32) (BitVec.ofNat 32 (256 * k.val)))) = 2816 * j.val + 256 * k.val) (i 1) k
theorem ou_eq (i : grid0.Coords) (k : Fin 11) : ou i k = 5632 + 2816 * half i + 256 * k.val :=
  (by decide : ∀ (j : Fin 2) (k : Fin 11), BitVec.toNat (Scalar.indexCast (Scalar.addi (Scalar.addi (Scalar.muli (BitVec.ofNat 32 j.val) 2816#32) (BitVec.ofNat 32 (256 * k.val))) 5632#32)) = 5632 + 2816 * j.val + 256 * k.val) (i 1) k

theorem inb_og (i : grid0.Coords) (k : Fin 11) : ∀ a, (![0, og i k] : Fin 2 → ℕ) a + (![256, 256] : Fin 2 → ℕ) a ≤ S256x11264.size a := by
  have := half_lt i
  have := k.isLt
  intro a
  match a with
  | ⟨0, _⟩ => exact le_refl 256
  | ⟨1, _⟩ => show og i k + 256 ≤ 11264; rw [og_eq]; omega
theorem inb_ou (i : grid0.Coords) (k : Fin 11) : ∀ a, (![0, ou i k] : Fin 2 → ℕ) a + (![256, 256] : Fin 2 → ℕ) a ≤ S256x11264.size a := by
  have := half_lt i
  have := k.isLt
  intro a
  match a with
  | ⟨0, _⟩ => exact le_refl 256
  | ⟨1, _⟩ => show ou i k + 256 ≤ 11264; rw [ou_eq]; omega

section Pieces
variable (i : grid0.Coords) (x0 : Vec F S2 .f32) (x1 : Vec F S256x2816 .f32) (x2 : Vec F S256x2816 .bf16) (x3 : Vec F S256x2816 .bf16)

/-- A chunk's store into the left half. -/
def pg (k : Fin 11) : View.Piece (Elt F) S256x11264 .fp8e5m2 :=
  ⟨Rect.unit (s := S256x11264) ![0, og i k] ![256, 256] (inb_og i k), k0_pay11 (x0 (ix1 0)) (cols k x2) (cols k x3) (cols k x1)⟩
/-- A chunk's store into the right half. -/
def pu (k : Fin 11) : View.Piece (Elt F) S256x11264 .fp8e5m2 :=
  ⟨Rect.unit (s := S256x11264) ![0, ou i k] ![256, 256] (inb_ou i k), k0_pay12 (x0 (ix1 0)) (cols k x2) (cols k x1)⟩

/-- A point's stores into the codes, the last one first. -/
def pcs : List (View.Piece (Elt F) S256x11264 .fp8e5m2) :=
  [pu i x0 x1 x2 10, pg i x0 x1 x2 x3 10, pu i x0 x1 x2 9, pg i x0 x1 x2 x3 9, pu i x0 x1 x2 8, pg i x0 x1 x2 x3 8, pu i x0 x1 x2 7, pg i x0 x1 x2 x3 7, pu i x0 x1 x2 6, pg i x0 x1 x2 x3 6, pu i x0 x1 x2 5, pg i x0 x1 x2 x3 5, pu i x0 x1 x2 4, pg i x0 x1 x2 x3 4, pu i x0 x1 x2 3, pg i x0 x1 x2 x3 3, pu i x0 x1 x2 2, pg i x0 x1 x2 x3 2, pu i x0 x1 x2 1, pg i x0 x1 x2 x3 1, pu i x0 x1 x2 0, pg i x0 x1 x2 x3 0]

theorem of_mem_pcs {p} (h : p ∈ pcs i x0 x1 x2 x3) : ∃ k, p = pg i x0 x1 x2 x3 k ∨ p = pu i x0 x1 x2 k := by
  unfold pcs at h
  simp only [List.mem_cons, List.not_mem_nil, or_false] at h
  rcases h with h | h | h | h | h | h | h | h | h | h | h | h | h | h | h | h | h | h | h | h | h | h
  · exact ⟨10, Or.inr h⟩
  · exact ⟨10, Or.inl h⟩
  · exact ⟨9, Or.inr h⟩
  · exact ⟨9, Or.inl h⟩
  · exact ⟨8, Or.inr h⟩
  · exact ⟨8, Or.inl h⟩
  · exact ⟨7, Or.inr h⟩
  · exact ⟨7, Or.inl h⟩
  · exact ⟨6, Or.inr h⟩
  · exact ⟨6, Or.inl h⟩
  · exact ⟨5, Or.inr h⟩
  · exact ⟨5, Or.inl h⟩
  · exact ⟨4, Or.inr h⟩
  · exact ⟨4, Or.inl h⟩
  · exact ⟨3, Or.inr h⟩
  · exact ⟨3, Or.inl h⟩
  · exact ⟨2, Or.inr h⟩
  · exact ⟨2, Or.inl h⟩
  · exact ⟨1, Or.inr h⟩
  · exact ⟨1, Or.inl h⟩
  · exact ⟨0, Or.inr h⟩
  · exact ⟨0, Or.inl h⟩
theorem pg_mem (k : Fin 11) : pg i x0 x1 x2 x3 k ∈ pcs i x0 x1 x2 x3 := by
  unfold pcs
  fin_cases k <;> simp
theorem pu_mem (k : Fin 11) : pu i x0 x1 x2 k ∈ pcs i x0 x1 x2 x3 := by
  unfold pcs
  fin_cases k <;> simp

end Pieces

/-- The four stores of the product, the last one first. -/
def prod (C : Vec F S256x11264 .fp8e5m2) (w : Vec F S2048x11264 .fp8e4m3) (s : F .f32) : List (View.Piece (Elt F) S256x2048 .bf16) :=
  [⟨Rect.unit (s := S256x2048) ![0, 1536] ![256, 512] inb_S256x2048_S256x512_0_1536, k0_pay3 C (rows 3 w) s⟩,
   ⟨Rect.unit (s := S256x2048) ![0, 1024] ![256, 512] inb_S256x2048_S256x512_0_1024, k0_pay3 C (rows 2 w) s⟩,
   ⟨Rect.unit (s := S256x2048) ![0, 512] ![256, 512] inb_S256x2048_S256x512_0_512, k0_pay3 C (rows 1 w) s⟩,
   ⟨Rect.unit (s := S256x2048) ![0, 0] ![256, 512] inb_S256x2048_S256x512_0_0, k0_pay3 C (rows 0 w) s⟩]

/-- The stores of a point of the first column. -/
theorem pieces_A (c : Dev nD) (i : grid0.Coords) (a2 : Memref sig .tc .smem S2 .f32) (h2 : a2.IsWhole) (a3 : Memref sig .tc .vmem S256x2816 .f32) (h3 : a3.IsWhole) (a4 : Memref sig .tc .vmem S256x2816 .bf16) (h4 : a4.IsWhole) (a5 : Memref sig .tc .vmem S256x2816 .bf16) (h5 : a5.IsWhole) (a6 : Memref sig .tc .vmem S2048x11264 .fp8e4m3) (h6 : a6.IsWhole) (a7 : Memref sig .tc .vmem S256x2048 .bf16) (h7 : a7.IsWhole) (a8 : Memref sig .tc .vmem S256x11264 .fp8e5m2) (h8 : a8.IsWhole) (hc : ¬last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    (runA c i a2 h2 a3 h3 a4 h4 a5 h5 a6 h6 a7 h7 a8 h8 hc x0 x1 x2 x3 x4 x6).1 = pcs i x0 x1 x2 x3 := by
  unfold runA
  dsimp only
  sl_unfold_words
  simp only [View.readAt_eq_ld, h2.read_unread, h3.read_unread, h4.read_unread, h5.read_unread, h6.read_unread, View.ld_unit_zero (S := S256x11264) hz, ld_cols 0 0 rfl, ld_cols 1 256 rfl, ld_cols 2 512 rfl, ld_cols 3 768 rfl, ld_cols 4 1024 rfl, ld_cols 5 1280 rfl, ld_cols 6 1536 rfl, ld_cols 7 1792 rfl, ld_cols 8 2048 rfl, ld_cols 9 2304 rfl, ld_cols 10 2560 rfl, ld_rows 0 0 rfl, ld_rows 1 512 rfl, ld_rows 2 1024 rfl, ld_rows 3 1536 rfl]
  simp only [dg1, du1, dg2, du2, dg3, du3, dg4, du4, dg5, du5, dg6, du6, dg7, du7, dg8, du8, dg9, du9, dg10, du10, pay4_eq, pay5_eq, pay6_eq, pay7_eq]
  rw [show View.ld x0 (Rect.unit ![0] ![1] inb_S2_S1_0) (Shape.Idx.first (by decide)) = x0 (ix1 0) from ld_s0 _ _ _]
  rfl

/-- The stores into the codes of a point of the second column. -/
theorem pieces_B (c : Dev nD) (i : grid0.Coords) (a2 : Memref sig .tc .smem S2 .f32) (h2 : a2.IsWhole) (a3 : Memref sig .tc .vmem S256x2816 .f32) (h3 : a3.IsWhole) (a4 : Memref sig .tc .vmem S256x2816 .bf16) (h4 : a4.IsWhole) (a5 : Memref sig .tc .vmem S256x2816 .bf16) (h5 : a5.IsWhole) (a6 : Memref sig .tc .vmem S2048x11264 .fp8e4m3) (h6 : a6.IsWhole) (a7 : Memref sig .tc .vmem S256x2048 .bf16) (h7 : a7.IsWhole) (a8 : Memref sig .tc .vmem S256x11264 .fp8e5m2) (h8 : a8.IsWhole) (hc : last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    (runB c i a2 h2 a3 h3 a4 h4 a5 h5 a6 h6 a7 h7 a8 h8 hc x0 x1 x2 x3 x4 x6).2.1 = pcs i x0 x1 x2 x3 := by
  unfold runB
  dsimp only
  sl_unfold_words
  simp only [View.readAt_eq_ld, h2.read_unread, h3.read_unread, h4.read_unread, h5.read_unread, h6.read_unread, View.ld_unit_zero (S := S256x11264) hz, ld_cols 0 0 rfl, ld_cols 1 256 rfl, ld_cols 2 512 rfl, ld_cols 3 768 rfl, ld_cols 4 1024 rfl, ld_cols 5 1280 rfl, ld_cols 6 1536 rfl, ld_cols 7 1792 rfl, ld_cols 8 2048 rfl, ld_cols 9 2304 rfl, ld_cols 10 2560 rfl, ld_rows 0 0 rfl, ld_rows 1 512 rfl, ld_rows 2 1024 rfl, ld_rows 3 1536 rfl]
  simp only [dg1, du1, dg2, du2, dg3, du3, dg4, du4, dg5, du5, dg6, du6, dg7, du7, dg8, du8, dg9, du9, dg10, du10, pay4_eq, pay5_eq, pay6_eq, pay7_eq]
  rw [show View.ld x0 (Rect.unit ![0] ![1] inb_S2_S1_0) (Shape.Idx.first (by decide)) = x0 (ix1 0) from ld_s0 _ _ _]
  rfl

/-- The stores into the product of a point of the second column. -/
theorem prod_B (c : Dev nD) (i : grid0.Coords) (a2 : Memref sig .tc .smem S2 .f32) (h2 : a2.IsWhole) (a3 : Memref sig .tc .vmem S256x2816 .f32) (h3 : a3.IsWhole) (a4 : Memref sig .tc .vmem S256x2816 .bf16) (h4 : a4.IsWhole) (a5 : Memref sig .tc .vmem S256x2816 .bf16) (h5 : a5.IsWhole) (a6 : Memref sig .tc .vmem S2048x11264 .fp8e4m3) (h6 : a6.IsWhole) (a7 : Memref sig .tc .vmem S256x2048 .bf16) (h7 : a7.IsWhole) (a8 : Memref sig .tc .vmem S256x11264 .fp8e5m2) (h8 : a8.IsWhole) (hc : last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    (runB c i a2 h2 a3 h3 a4 h4 a5 h5 a6 h6 a7 h7 a8 h8 hc x0 x1 x2 x3 x4 x6).1 = prod (a8.view.read (Elt F) (a8.view.writes (Elt F) (h8.unread x6) (pcs i x0 x1 x2 x3))) x4 (x0 (ix1 1)) := by
  unfold runB
  dsimp only
  sl_unfold_words
  simp only [View.readAt_eq_ld, h2.read_unread, h3.read_unread, h4.read_unread, h5.read_unread, h6.read_unread, View.ld_unit_zero (S := S256x11264) hz, ld_cols 0 0 rfl, ld_cols 1 256 rfl, ld_cols 2 512 rfl, ld_cols 3 768 rfl, ld_cols 4 1024 rfl, ld_cols 5 1280 rfl, ld_cols 6 1536 rfl, ld_cols 7 1792 rfl, ld_cols 8 2048 rfl, ld_cols 9 2304 rfl, ld_cols 10 2560 rfl, ld_rows 0 0 rfl, ld_rows 1 512 rfl, ld_rows 2 1024 rfl, ld_rows 3 1536 rfl]
  simp only [dg1, du1, dg2, du2, dg3, du3, dg4, du4, dg5, du5, dg6, du6, dg7, du7, dg8, du8, dg9, du9, dg10, du10, pay4_eq, pay5_eq, pay6_eq, pay7_eq]
  rw [show View.ld x0 (Rect.unit ![0] ![1] inb_S2_S1_0) (Shape.Idx.first (by decide)) = x0 (ix1 0) from ld_s0 _ _ _,
    show View.ld x0 (Rect.unit ![1] ![1] inb_S2_S1_1) (Shape.Idx.first (by decide)) = x0 (ix1 1) from ld_s1 _ _ _]
  unfold prod pcs pg pu
  rfl

end Cert.DxIdeal.Fold

end
-- ==== Proof.DxValue.lean ====
/-
  The value of the kernel `dx`: the codes of the hidden layer's gradient and the gradient of the input, each as one
  formula of the arguments.
-/
module

public import proofs.«01_k».proof.Proof.DxKernel
public import proofs.«01_k».proof.Proof.Quant
public import Idealize.ShloMosaic.Lib.Pipeline.ArrRel
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat RDat)
open Cert.Quant

namespace Cert.DxIdeal.Fold

open Cert.DxIdeal Cert.DxIdeal.Gen Cert.DxIdeal.Body

/-! ## The block formulas at an index -/

/-- A code of the gate half. -/
theorem pay11_apply (s : EReal) (g u d : S256x256.Idx → EReal) (r : Fin 256) (q : Fin 256) :
    k0_pay11 (F := Ideal) s g u d (ix2 r q) = clip (dg (d (ix2 r q)) (g (ix2 r q)) (u (ix2 r q)) * s) := by
  pointwise [k0_pay11, k0_pay9, k0_pay8, k0_pay10]
  unfold clip dg
  ac_rfl

/-- A code of the other half. -/
theorem pay12_apply (s : EReal) (g d : S256x256.Idx → EReal) (r : Fin 256) (q : Fin 256) :
    k0_pay12 (F := Ideal) s g d (ix2 r q) = clip (du (d (ix2 r q)) (g (ix2 r q)) * s) := by
  pointwise [k0_pay12, k0_pay9, k0_pay8, k0_pay10]
  unfold clip du
  ac_rfl

/-- An element of the product: the contraction over the 11264 columns, scaled. -/
theorem pay3_apply (C : S256x11264.Idx → EReal) (w : S512x11264.Idx → EReal) (s : EReal) (r : Fin 256) (q : Fin 512) :
    k0_pay3 (F := Ideal) C w s (ix2 r q) = (∑ k : Fin 11264, C (ix2 r k) * w (ix2 q k)) * s := by
  pointwise [k0_pay3]

theorem ix_eta {n k : ℕ} (y : (⟨2, ![n, k]⟩ : Shape).Idx) : y = ix2 (y 0) (y 1) := funext fun a => by match a with | ⟨0, _⟩ => rfl | ⟨1, _⟩ => rfl

/-- A local column of the half's block. -/
abbrev lc (q : ℕ) : Fin 2816 := ⟨q % 2816, Nat.mod_lt _ (by decide)⟩

section Block
variable (i : grid0.Coords) (x0 : S2.Idx → EReal) (x1 x2 x3 : S256x2816.Idx → EReal) (w : S2048x11264.Idx → EReal)

/-- What a point's stores into the codes are pieces of. -/
def cod : S256x11264.Idx → EReal := fun y =>
  if (y 1).val < 5632 then clip (dg (x1 (ix2 (y 0) (lc (y 1).val))) (x2 (ix2 (y 0) (lc (y 1).val))) (x3 (ix2 (y 0) (lc (y 1).val))) * x0 (ix1 0))
  else clip (du (x1 (ix2 (y 0) (lc (y 1).val))) (x2 (ix2 (y 0) (lc (y 1).val))) * x0 (ix1 0))

theorem cod_left (k : Fin 11) (o h : ℕ) (hh : h < 2) (ho : o = 2816 * h + 256 * k.val) (hb) (x : S256x256.Idx) :
    k0_pay11 (F := Ideal) (x0 (ix1 0)) (cols (F := Ideal) (e := .bf16) k x2) (cols (F := Ideal) (e := .bf16) k x3) (cols (F := Ideal) (e := .f32) k x1) x
      = cod x0 x1 x2 x3 ((Rect.unit (s := S256x11264) ![0, o] ![256, 256] hb).emb x) := by
  subst ho
  have hk := k.isLt
  have hx : (x 1).val < 256 := (x 1).isLt
  have hx' : x = ix2 (x 0) (x 1) := ix_eta x
  have e0 : ((Rect.unit (s := S256x11264) ![0, 2816 * h + 256 * k.val] ![256, 256] hb).emb x) 0 = x 0 := Fin.ext (by
    show 0 + 1 * (x 0).val = (x 0).val; omega)
  have e1 : (((Rect.unit (s := S256x11264) ![0, 2816 * h + 256 * k.val] ![256, 256] hb).emb x) 1).val = 2816 * h + 256 * k.val + (x 1).val := by
    show 2816 * h + 256 * k.val + 1 * (x 1).val = _; omega
  have e2 : lc (2816 * h + 256 * k.val + (x 1).val) = ⟨256 * k.val + (x 1).val, by omega⟩ := Fin.ext (by
    show (2816 * h + 256 * k.val + (x 1).val) % 2816 = 256 * k.val + (x 1).val; omega)
  unfold cod
  rw [e0, e1, if_pos (by omega), e2]
  exact (congrArg _ hx').trans (pay11_apply _ _ _ _ (x 0) (x 1))

theorem cod_right (k : Fin 11) (o h : ℕ) (hh : h < 2) (ho : o = 5632 + 2816 * h + 256 * k.val) (hb) (x : S256x256.Idx) :
    k0_pay12 (F := Ideal) (x0 (ix1 0)) (cols (F := Ideal) (e := .bf16) k x2) (cols (F := Ideal) (e := .f32) k x1) x
      = cod x0 x1 x2 x3 ((Rect.unit (s := S256x11264) ![0, o] ![256, 256] hb).emb x) := by
  subst ho
  have hk := k.isLt
  have hx : (x 1).val < 256 := (x 1).isLt
  have hx' : x = ix2 (x 0) (x 1) := ix_eta x
  have e0 : ((Rect.unit (s := S256x11264) ![0, 5632 + 2816 * h + 256 * k.val] ![256, 256] hb).emb x) 0 = x 0 := Fin.ext (by
    show 0 + 1 * (x 0).val = (x 0).val; omega)
  have e1 : (((Rect.unit (s := S256x11264) ![0, 5632 + 2816 * h + 256 * k.val] ![256, 256] hb).emb x) 1).val = 5632 + 2816 * h + 256 * k.val + (x 1).val := by
    show 5632 + 2816 * h + 256 * k.val + 1 * (x 1).val = _; omega
  have e2 : lc (5632 + 2816 * h + 256 * k.val + (x 1).val) = ⟨256 * k.val + (x 1).val, by omega⟩ := Fin.ext (by
    show (5632 + 2816 * h + 256 * k.val + (x 1).val) % 2816 = 256 * k.val + (x 1).val; omega)
  unfold cod
  rw [e0, e1, if_neg (by omega), e2]
  exact (congrArg _ hx').trans (pay12_apply _ _ _ (x 0) (x 1))

/-- The stores into the codes are pieces of one array. -/
theorem pcs_piece : ∀ p ∈ pcs (F := Ideal) i x0 x1 x2 x3, ∀ x : p.1.shape.Idx, p.2 x = cod x0 x1 x2 x3 (p.1.emb x) := by
  intro p hp
  obtain ⟨k, rfl | rfl⟩ := of_mem_pcs (F := Ideal) i x0 x1 x2 x3 hp
  · exact fun x => cod_left x0 x1 x2 x3 k (og i k) (half i) (half_lt i) (og_eq i k) (inb_og i k) x
  · exact fun x => cod_right x0 x1 x2 x3 k (ou i k) (half i) (half_lt i) (ou_eq i k) (inb_ou i k) x

/-- They cover the point's columns of both halves, … -/
theorem pcs_cover (y : S256x11264.Idx) (h0 : 2816 * half i ≤ (y 1).val % 5632) (h1 : (y 1).val % 5632 < 2816 * (half i + 1)) :
    ∃ p ∈ pcs (F := Ideal) i x0 x1 x2 x3, y ∈ p.1.set := by
  have hi := half_lt i
  have hy0 : (y 0).val < 256 := (y 0).isLt
  have hy1 : (y 1).val < 11264 := (y 1).isLt
  by_cases h : (y 1).val < 5632
  · refine ⟨_, pg_mem (F := Ideal) i x0 x1 x2 x3 ⟨(y 1).val % 2816 / 256, by omega⟩, ?_⟩
    refine (Rect.mem_set_unit (inb := inb_og i _)).mpr fun a => ?_
    match a with
    | ⟨0, _⟩ => exact ⟨Nat.zero_le _, by show (y 0).val < 0 + 256; omega⟩
    | ⟨1, _⟩ =>
      show og i _ ≤ (y 1).val ∧ (y 1).val < og i _ + 256
      rw [og_eq]
      dsimp only
      omega
  · refine ⟨_, pu_mem (F := Ideal) i x0 x1 x2 x3 ⟨(y 1).val % 2816 / 256, by omega⟩, ?_⟩
    refine (Rect.mem_set_unit (inb := inb_ou i _)).mpr fun a => ?_
    match a with
    | ⟨0, _⟩ => exact ⟨Nat.zero_le _, by show (y 0).val < 0 + 256; omega⟩
    | ⟨1, _⟩ =>
      show ou i _ ≤ (y 1).val ∧ (y 1).val < ou i _ + 256
      rw [ou_eq]
      dsimp only
      omega

/-- … and nothing before them. -/
theorem pcs_miss (y : S256x11264.Idx) (h : (y 1).val % 5632 < 2816 * half i) :
    ∀ p ∈ pcs (F := Ideal) i x0 x1 x2 x3, y ∉ p.1.set := by
  have hi := half_lt i
  have hy1 : (y 1).val < 11264 := (y 1).isLt
  intro p hp
  obtain ⟨k, rfl | rfl⟩ := of_mem_pcs (F := Ideal) i x0 x1 x2 x3 hp
  · intro hm
    have hk := k.isLt
    have e : og i k ≤ (y 1).val ∧ (y 1).val < og i k + 256 := (Rect.mem_set_unit (inb := inb_og i k)).mp hm 1
    rw [og_eq] at e
    omega
  · intro hm
    have hk := k.isLt
    have e : ou i k ≤ (y 1).val ∧ (y 1).val < ou i k + 256 := (Rect.mem_set_unit (inb := inb_ou i k)).mp hm 1
    rw [ou_eq] at e
    omega

/-- What the four stores of the product are pieces of. -/
def mat (C : S256x11264.Idx → EReal) (s : EReal) : S256x2048.Idx → EReal := fun y =>
  (∑ k : Fin 11264, C (ix2 (y 0) k) * w (ix2 (y 1) k)) * s

theorem mat_tile (C : S256x11264.Idx → EReal) (s : EReal) (k : Fin 4) (o : ℕ) (ho : o = 512 * k.val) (hb) (x : S256x512.Idx) :
    k0_pay3 (F := Ideal) C (rows (F := Ideal) (e := .fp8e4m3) k w) s x = mat w C s ((Rect.unit (s := S256x2048) ![0, o] ![256, 512] hb).emb x) := by
  subst ho
  have hk := k.isLt
  have hx : (x 1).val < 512 := (x 1).isLt
  have hx' : x = ix2 (x 0) (x 1) := ix_eta x
  have e0 : ((Rect.unit (s := S256x2048) ![0, 512 * k.val] ![256, 512] hb).emb x) 0 = x 0 := Fin.ext (by
    show 0 + 1 * (x 0).val = (x 0).val; omega)
  have e1 : ((Rect.unit (s := S256x2048) ![0, 512 * k.val] ![256, 512] hb).emb x) 1 = (⟨512 * k.val + (x 1).val, by omega⟩ : Fin 2048) := Fin.ext (by
    show 512 * k.val + 1 * (x 1).val = 512 * k.val + (x 1).val; omega)
  unfold mat
  rw [e0, e1]
  exact (congrArg _ hx').trans (pay3_apply _ _ _ (x 0) (x 1))

theorem prod_piece (C : S256x11264.Idx → EReal) (s : EReal) :
    ∀ p ∈ prod (F := Ideal) C w s, ∀ x : p.1.shape.Idx, p.2 x = mat w C s (p.1.emb x) := by
  intro p hp
  unfold prod at hp
  simp only [List.mem_cons, List.not_mem_nil, or_false] at hp
  rcases hp with rfl | rfl | rfl | rfl
  · exact fun x => mat_tile w C s 3 1536 rfl inb_S256x2048_S256x512_0_1536 x
  · exact fun x => mat_tile w C s 2 1024 rfl inb_S256x2048_S256x512_0_1024 x
  · exact fun x => mat_tile w C s 1 512 rfl inb_S256x2048_S256x512_0_512 x
  · exact fun x => mat_tile w C s 0 0 rfl inb_S256x2048_S256x512_0_0 x

theorem prod_cover (C : S256x11264.Idx → EReal) (s : EReal) (y : S256x2048.Idx) :
    ∃ p ∈ prod (F := Ideal) C w s, y ∈ p.1.set := by
  have hy0 : (y 0).val < 256 := (y 0).isLt
  have hy1 : (y 1).val < 2048 := (y 1).isLt
  have key : ∀ (o : ℕ) (hb : ∀ a, (![0, o] : Fin 2 → ℕ) a + (![256, 512] : Fin 2 → ℕ) a ≤ S256x2048.size a), o ≤ (y 1).val → (y 1).val < o + 512 →
      y ∈ (Rect.unit (s := S256x2048) ![0, o] ![256, 512] hb).set := by
    intro o hb h0 h1
    refine Rect.mem_set_unit.mpr fun a => ?_
    match a with
    | ⟨0, _⟩ => exact ⟨Nat.zero_le _, by show (y 0).val < 0 + 256; omega⟩
    | ⟨1, _⟩ => exact ⟨h0, h1⟩
  unfold prod
  by_cases h3 : 1536 ≤ (y 1).val
  · exact ⟨_, List.mem_cons_self, key _ inb_S256x2048_S256x512_0_1536 h3 (by omega)⟩
  by_cases h2 : 1024 ≤ (y 1).val
  · exact ⟨_, List.mem_cons_of_mem _ List.mem_cons_self, key _ inb_S256x2048_S256x512_0_1024 h2 (by omega)⟩
  by_cases h1 : 512 ≤ (y 1).val
  · exact ⟨_, List.mem_cons_of_mem _ (List.mem_cons_of_mem _ List.mem_cons_self), key _ inb_S256x2048_S256x512_0_512 h1 (by omega)⟩
  · exact ⟨_, List.mem_cons_of_mem _ (List.mem_cons_of_mem _ (List.mem_cons_of_mem _ List.mem_cons_self)), key _ inb_S256x2048_S256x512_0_0 (by omega) (by omega)⟩

end Block

section Value
variable (m : (ℓ : Loc nD τ sig) → Buf (Elt Ideal) ℓ) (ρ : Dev nD → PrngReg)

/-- The inverse scale and the product of the two scales as the region finds them. -/
abbrev SC (c : Dev nD) : S2.Idx → EReal := V m c main_v3
/-- The gradient of the activations. -/
abbrev DA (c : Dev nD) : S16384x5632.Idx → EReal := V m c main_arg3
/-- The two halves of the hidden layer, side by side. -/
abbrev GU (c : Dev nD) : S16384x11264.Idx → EReal := V m c main_v4
/-- The weights' codes. -/
abbrev W1 (c : Dev nD) : S2048x11264.Idx → EReal := V m c main_arg5

/-- The code of an element of the hidden layer's gradient. -/
def CD (c : Dev nD) (r : Fin 16384) (q : Fin 11264) : EReal :=
  if h : q.val < 5632 then clip (dg (DA m c (ix2 r ⟨q.val, h⟩)) (GU m c (ix2 r ⟨q.val, by omega⟩)) (GU m c (ix2 r ⟨5632 + q.val, by omega⟩)) * SC m c (ix1 0))
  else clip (du (DA m c (ix2 r ⟨q.val - 5632, by omega⟩)) (GU m c (ix2 r ⟨q.val - 5632, by omega⟩)) * SC m c (ix1 0))
/-- An element of the input's gradient. -/
def DX (c : Dev nD) (r : Fin 16384) (d : Fin 2048) : EReal := (∑ q : Fin 11264, CD m c r q * W1 m c (ix2 d q)) * SC m c (ix1 1)

theorem idx_in : ∀ t : Fin cfg0.N, win0_0.index t (0 : Fin 1) = 0 ∧ win0_1.index t (0 : Fin 2) = t.val / 2 ∧ win0_1.index t (1 : Fin 2) = t.val % 2
    ∧ win0_2.index t (0 : Fin 2) = t.val / 2 ∧ win0_2.index t (1 : Fin 2) = t.val % 2 ∧ win0_3.index t (0 : Fin 2) = t.val / 2 ∧ win0_3.index t (1 : Fin 2) = 2 + t.val % 2
    ∧ win0_4.index t (0 : Fin 2) = 0 ∧ win0_4.index t (1 : Fin 2) = 0 ∧ win0_5.index t (0 : Fin 2) = t.val / 2 ∧ win0_5.index t (1 : Fin 2) = 0
    ∧ win0_6.index t (0 : Fin 2) = t.val / 2 ∧ win0_6.index t (1 : Fin 2) = 0 ∧ half (grid0.coords t) = t.val % 2 :=
  (by decide +kernel : ∀ t : Fin grid0.N, _)

theorem half_eq (t : Fin cfg0.N) : half (grid0.coords t) = t.val % 2 := (idx_in t).2.2.2.2.2.2.2.2.2.2.2.2.2

/-- Row `r` of block `t`. -/
abbrev row (t : ℕ) (r : ℕ) : Fin 16384 := Fin.ofNat 16384 (256 * (t / 2) + r)

theorem iblk0_apply (c : Dev nD) (t : Fin cfg0.N) (k : Fin 2) : (iblk m c 0 t : S2.Idx → EReal) (ix1 k) = SC m c (ix1 k) := by
  obtain ⟨e0, -⟩ := idx_in t
  show V m c main_v3 _ = V m c main_v3 _
  congr 1
  funext a
  apply Fin.ext
  match a with
  | ⟨0, _⟩ => show win0_0.index t 0 * 2 + 1 * k.val = k.val; rw [e0]; omega

theorem iblk1_apply (c : Dev nD) (t : Fin cfg0.N) (r : Fin 256) (f : Fin 2816) :
    (iblk m c 1 t : S256x2816.Idx → EReal) (ix2 r f) = DA m c (ix2 (row t.val r.val) ⟨2816 * (t.val % 2) + f.val, by omega⟩) := by
  obtain ⟨-, e0, e1, -⟩ := idx_in t
  have hr := r.isLt
  have hN : t.val < 128 := lt_of_lt_of_eq t.isLt N_0
  show V m c main_arg3 _ = V m c main_arg3 _
  congr 1
  funext a
  apply Fin.ext
  match a with
  | ⟨0, _⟩ => show win0_1.index t 0 * 256 + 1 * r.val = (256 * (t.val / 2) + r.val) % 16384; rw [e0]; omega
  | ⟨1, _⟩ => show win0_1.index t 1 * 2816 + 1 * f.val = 2816 * (t.val % 2) + f.val; rw [e1]; omega

theorem iblk2_apply (c : Dev nD) (t : Fin cfg0.N) (r : Fin 256) (f : Fin 2816) :
    (iblk m c 2 t : S256x2816.Idx → EReal) (ix2 r f) = GU m c (ix2 (row t.val r.val) ⟨2816 * (t.val % 2) + f.val, by omega⟩) := by
  obtain ⟨-, -, -, e0, e1, -⟩ := idx_in t
  have hr := r.isLt
  have hN : t.val < 128 := lt_of_lt_of_eq t.isLt N_0
  show V m c main_v4 _ = V m c main_v4 _
  congr 1
  funext a
  apply Fin.ext
  match a with
  | ⟨0, _⟩ => show win0_2.index t 0 * 256 + 1 * r.val = (256 * (t.val / 2) + r.val) % 16384; rw [e0]; omega
  | ⟨1, _⟩ => show win0_2.index t 1 * 2816 + 1 * f.val = 2816 * (t.val % 2) + f.val; rw [e1]; omega

theorem iblk3_apply (c : Dev nD) (t : Fin cfg0.N) (r : Fin 256) (f : Fin 2816) :
    (iblk m c 3 t : S256x2816.Idx → EReal) (ix2 r f) = GU m c (ix2 (row t.val r.val) ⟨5632 + (2816 * (t.val % 2) + f.val), by omega⟩) := by
  obtain ⟨-, -, -, -, -, e0, e1, -⟩ := idx_in t
  have hr := r.isLt
  have hN : t.val < 128 := lt_of_lt_of_eq t.isLt N_0
  show V m c main_v4 _ = V m c main_v4 _
  congr 1
  funext a
  apply Fin.ext
  match a with
  | ⟨0, _⟩ => show win0_3.index t 0 * 256 + 1 * r.val = (256 * (t.val / 2) + r.val) % 16384; rw [e0]; omega
  | ⟨1, _⟩ => show win0_3.index t 1 * 2816 + 1 * f.val = 5632 + (2816 * (t.val % 2) + f.val); rw [e1]; omega

theorem iblk4_apply (c : Dev nD) (t : Fin cfg0.N) (d : Fin 2048) (q : Fin 11264) :
    (iblk m c 4 t : S2048x11264.Idx → EReal) (ix2 d q) = W1 m c (ix2 d q) := by
  obtain ⟨-, -, -, -, -, -, -, e0, e1, -⟩ := idx_in t
  show V m c main_arg5 _ = V m c main_arg5 _
  congr 1
  funext a
  apply Fin.ext
  match a with
  | ⟨0, _⟩ => show win0_4.index t 0 * 2048 + 1 * d.val = d.val; rw [e0]; omega
  | ⟨1, _⟩ => show win0_4.index t 1 * 11264 + 1 * q.val = q.val; rw [e1]; omega

/-- A point's pieces are blocks of the array of codes. -/
theorem cod_at (c : Dev nD) (t : Fin cfg0.N) (r : Fin 256) (q : Fin 11264) (h0 : 2816 * (t.val % 2) ≤ q.val % 5632) (h1 : q.val % 5632 < 2816 * (t.val % 2 + 1)) :
    cod (iblk m c 0 t) (iblk m c 1 t) (iblk m c 2 t) (iblk m c 3 t) (ix2 r q) = CD m c (row t.val r.val) q := by
  have hq := q.isLt
  show (if q.val < 5632 then clip (dg ((iblk m c 1 t : S256x2816.Idx → EReal) (ix2 r (lc q.val))) ((iblk m c 2 t : S256x2816.Idx → EReal) (ix2 r (lc q.val))) ((iblk m c 3 t : S256x2816.Idx → EReal) (ix2 r (lc q.val))) * (iblk m c 0 t : S2.Idx → EReal) (ix1 0))
    else clip (du ((iblk m c 1 t : S256x2816.Idx → EReal) (ix2 r (lc q.val))) ((iblk m c 2 t : S256x2816.Idx → EReal) (ix2 r (lc q.val))) * (iblk m c 0 t : S2.Idx → EReal) (ix1 0))) = _
  unfold CD
  rw [iblk0_apply, iblk1_apply, iblk2_apply, iblk3_apply]
  by_cases h : q.val < 5632
  · rw [if_pos h, dif_pos h]
    have e : 2816 * (t.val % 2) + q.val % 2816 = q.val := by omega
    simp only [e]
  · rw [if_neg h, dif_neg h]
    have e : 2816 * (t.val % 2) + q.val % 2816 = q.val - 5632 := by omega
    simp only [e]

theorem cod_eq (c : Dev nD) (t : Fin cfg0.N) (y : S256x11264.Idx) (h0 : 2816 * (t.val % 2) ≤ (y 1).val % 5632) (h1 : (y 1).val % 5632 < 2816 * (t.val % 2 + 1)) :
    cod (iblk m c 0 t) (iblk m c 1 t) (iblk m c 2 t) (iblk m c 3 t) y = CD m c (row t.val (y 0).val) (y 1) :=
  (congrArg (cod (iblk m c 0 t) (iblk m c 1 t) (iblk m c 2 t) (iblk m c 3 t)) (ix_eta y)).trans (cod_at m c t (y 0) (y 1) h0 h1)

/-- The codes are right up to and with the point's half. -/
def R6 (c : Dev nD) (t : Fin cfg0.N) (X : S256x11264.Idx → EReal) : Prop :=
  ∀ y : S256x11264.Idx, (y 1).val % 5632 < 2816 * (t.val % 2 + 1) → X y = CD m c (row t.val (y 0).val) (y 1)
/-- The product is right at a point of the second column. -/
def R5 (c : Dev nD) (t : Fin cfg0.N) (X : S256x2048.Idx → EReal) : Prop :=
  t.val % 2 = 1 → ∀ y : S256x2048.Idx, X y = DX m c (row t.val (y 0).val) (y 1)

/-- What a point's stores leave of the codes, over contents that were right for the half before. -/
theorem codes_after (c : Dev nD) (t : Fin cfg0.N) (x6 : Vec Ideal S256x11264 .fp8e5m2)
    (hx : ∀ y : S256x11264.Idx, (y 1).val % 5632 < 2816 * (t.val % 2) → x6 y = CD m c (row t.val (y 0).val) (y 1)) :
    R6 m c t ((ms6 t).view.read (Elt Ideal) ((ms6 t).view.writes (Elt Ideal) ((hs6 t).unread x6)
      (pcs (F := Ideal) (grid0.coords t) (iblk m c 0 t) (iblk m c 1 t) (iblk m c 2 t) (iblk m c 3 t)))) := by
  intro y hy
  by_cases h : 2816 * (t.val % 2) ≤ (y 1).val % 5632
  · rw [View.read_writes_apply_of_pieces _ _ _ _ (pcs_piece (grid0.coords t) (iblk m c 0 t) (iblk m c 1 t) (iblk m c 2 t) (iblk m c 3 t)) y
      (pcs_cover _ _ _ _ _ y (by rw [half_eq]; exact h) (by rw [half_eq]; exact hy))]
    exact cod_eq m c t y h hy
  · rw [View.read_writes_apply_of_forall_not_mem _ _ y _ (pcs_miss _ _ _ _ _ y (by rw [half_eq]; omega)), (hs6 t).read_unread]
    exact hx y (by omega)

/-- At a point of the second column the first half is right as found. -/
theorem half_found (c : Dev nD) (t : Fin cfg0.N) (ht : t.val % 2 = 1) (x6 : Vec Ideal S256x11264 .fp8e5m2)
    (hp : R6 m c ⟨t.val - 1, Nat.lt_of_le_of_lt (Nat.sub_le _ _) t.isLt⟩ x6) :
    ∀ y : S256x11264.Idx, (y 1).val % 5632 < 2816 * (t.val % 2) → x6 y = CD m c (row t.val (y 0).val) (y 1) := by
  intro y hy
  have e := hp y (by dsimp only; omega)
  have e' : (t.val - 1) / 2 = t.val / 2 := by omega
  dsimp only [row] at e ⊢
  rw [e'] at e
  exact e

/-- The two predicates hold of what the stores leave. -/
theorem good (c : Dev nD) : Good m (R5 m c) (R6 m c) c where
  first5 t h x := fun h' => absurd ((last_iff t).mpr h') h
  first6 t h x6 := by
    unfold LA
    rw [pieces_A]
    have ht : ¬t.val % 2 = 1 := fun e => h ((last_iff t).mpr e)
    exact codes_after m c t x6 fun y hy => by exfalso; omega
  last5 t h x6 hp f := by
    have ht := (last_iff t).mp h
    unfold LB
    rw [prod_B]
    intro _ y
    rw [View.read_writes_apply_of_pieces _ _ _ _ (prod_piece (iblk m c 4 t) _ _) y (prod_cover _ _ _ y)]
    unfold mat DX
    rw [iblk0_apply]
    refine congrArg (· * SC m c (ix1 1)) (Finset.sum_congr rfl fun q _ => ?_)
    refine congrArg₂ (· * ·) ?_ (iblk4_apply m c t (y 1) q)
    exact codes_after m c t x6 (half_found m c t ht x6 hp) (ix2 (y 0) q) (by rw [ht]; exact Nat.mod_lt _ (by decide))
  last6 t h x6 hp := by
    have ht := (last_iff t).mp h
    unfold LB
    rw [pieces_B]
    exact codes_after m c t x6 (half_found m c t ht x6 hp)

/-- The point whose blocks hold row `r` complete. -/
def ptOf (r : ℕ) : Fin cfg0.N := Fin.cast N_0.symm (Fin.ofNat 128 (r / 256 % 64 * 2 + 1))

theorem ptOf_odd (r : ℕ) : (ptOf r).val % 2 = 1 := by
  show (r / 256 % 64 * 2 + 1) % 128 % 2 = 1
  omega
theorem ptOf_half (r : ℕ) : (ptOf r).val / 2 = r / 256 % 64 := by
  show (r / 256 % 64 * 2 + 1) % 128 / 2 = r / 256 % 64
  omega

/-- The input's gradient ends complete. -/
theorem arr5 (c : Dev nD) (d : Dat τ (Elt Ideal) Unit ℕ (UR sig nD τ) ℕ cfg0 c) (hd : ∀ t : Fin cfg0.N, t.val % 2 = 1 → R5 m c t (d.after 5 t)) :
    d.arrAt 5 cfg0.N = fun i : S16384x2048.Idx => DX m c (i 0) (i 1) := by
  refine d.arrAt_eq_of_cover 5 _ (fun t hf => ?_) fun i => ⟨ptOf (i 0).val, (flush0_5 _).mpr (ptOf_odd _), ?_⟩
  · obtain ⟨-, -, -, -, -, -, -, -, -, e0, e1, -⟩ := idx_in t
    have hN : t.val < 128 := lt_of_lt_of_eq t.isLt N_0
    have ht : t.val % 2 = 1 := (flush0_5 t).mp hf
    have h := hd t ht
    show (cfg0.win 5).cut (grid0.coords t) (d.after 5 t) = _
    funext y
    have hy0 : (y 0).val < 256 := (y 0).isLt
    have hy1 : (y 1).val < 2048 := (y 1).isLt
    show d.after 5 t y = DX m c ((((cfg0.win 5).blk t).view.emb y) 0) ((((cfg0.win 5).blk t).view.emb y) 1)
    refine (h ht y).trans ?_
    congr 1
    · apply Fin.ext
      show (256 * (t.val / 2) + (y 0).val) % 16384 = win0_5.index t 0 * 256 + 1 * (y 0).val
      rw [e0]; omega
    · apply Fin.ext
      show (y 1).val = win0_5.index t 1 * 2048 + 1 * (y 1).val
      rw [e1]; omega
  · obtain ⟨-, -, -, -, -, -, -, -, -, e0, e1, -⟩ := idx_in (ptOf (i 0).val)
    have hi0 : (i 0).val < 16384 := (i 0).isLt
    have e := ((cfg0.win 5).blk (ptOf (i 0).val)).view.emb_mem_set (ix2 (Fin.ofNat 256 (i 0).val) (i 1))
    have h : ((cfg0.win 5).blk (ptOf (i 0).val)).view.emb (ix2 (Fin.ofNat 256 (i 0).val) (i 1)) = i := by
      funext a
      apply Fin.ext
      match a with
      | ⟨0, _⟩ =>
        show win0_5.index (ptOf (i 0).val) 0 * 256 + 1 * ((i 0).val % 256) = (i 0).val
        rw [e0, ptOf_half]
        omega
      | ⟨1, _⟩ => show win0_5.index (ptOf (i 0).val) 1 * 2048 + 1 * (i 1).val = (i 1).val; rw [e1]; omega
    rwa [h] at e

/-- The array of codes ends complete. -/
theorem arr6 (c : Dev nD) (d : Dat τ (Elt Ideal) Unit ℕ (UR sig nD τ) ℕ cfg0 c) (hd : ∀ t : Fin cfg0.N, t.val % 2 = 1 → R6 m c t (d.after 6 t)) :
    d.arrAt 6 cfg0.N = fun i : S16384x11264.Idx => CD m c (i 0) (i 1) := by
  refine d.arrAt_eq_of_cover 6 _ (fun t hf => ?_) fun i => ⟨ptOf (i 0).val, (flush0_6 _).mpr (ptOf_odd _), ?_⟩
  · obtain ⟨-, -, -, -, -, -, -, -, -, -, -, e0, e1, -⟩ := idx_in t
    have hN : t.val < 128 := lt_of_lt_of_eq t.isLt N_0
    have ht : t.val % 2 = 1 := (flush0_6 t).mp hf
    have h := hd t ht
    show (cfg0.win 6).cut (grid0.coords t) (d.after 6 t) = _
    funext y
    have hy0 : (y 0).val < 256 := (y 0).isLt
    have hy1 : (y 1).val < 11264 := (y 1).isLt
    show d.after 6 t y = CD m c ((((cfg0.win 6).blk t).view.emb y) 0) ((((cfg0.win 6).blk t).view.emb y) 1)
    refine (h y (by rw [ht]; exact Nat.mod_lt _ (by decide))).trans ?_
    congr 1
    · apply Fin.ext
      show (256 * (t.val / 2) + (y 0).val) % 16384 = win0_6.index t 0 * 256 + 1 * (y 0).val
      rw [e0]; omega
    · apply Fin.ext
      show (y 1).val = win0_6.index t 1 * 11264 + 1 * (y 1).val
      rw [e1]; omega
  · obtain ⟨-, -, -, -, -, -, -, -, -, -, -, e0, e1, -⟩ := idx_in (ptOf (i 0).val)
    have hi0 : (i 0).val < 16384 := (i 0).isLt
    have e := ((cfg0.win 6).blk (ptOf (i 0).val)).view.emb_mem_set (ix2 (Fin.ofNat 256 (i 0).val) (i 1))
    have h : ((cfg0.win 6).blk (ptOf (i 0).val)).view.emb (ix2 (Fin.ofNat 256 (i 0).val) (i 1)) = i := by
      funext a
      apply Fin.ext
      match a with
      | ⟨0, _⟩ =>
        show win0_6.index (ptOf (i 0).val) 0 * 256 + 1 * ((i 0).val % 256) = (i 0).val
        rw [e0, ptOf_half]
        omega
      | ⟨1, _⟩ => show win0_6.index (ptOf (i 0).val) 1 * 11264 + 1 * (i 1).val = (i 1).val; rw [e1]; omega
    rwa [h] at e

/-- THE RUN: the input's gradient and the codes; the arguments unchanged. -/
theorem run : θ_run defs (onTc (τ := τ) (main (F := Ideal))) ⟨m, fun _ => 0, ρ⟩ fun r => ∀ c : Dev nD,
      r.2.mem ((c.tc : Thread nD τ).loc main_v5_0) = (fun i : S16384x2048.Idx => DX m c (i 0) (i 1))
      ∧ r.2.mem ((c.tc : Thread nD τ).loc main_v5_1) = (fun i : S16384x11264.Idx => CD m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hg : ∀ c : Dev nD, Good m (R5 m 0) (R6 m 0) c := fun c => by
    obtain rfl : c = 0 := Subsingleton.elim _ _
    exact good m 0
  refine (θ_run defs _ _).mono (fun r h c => ?_) (run_main m ρ hg)
  obtain ⟨h, -⟩ := h
  obtain rfl : c = 0 := Subsingleton.elim _ _
  obtain ⟨after, hl, ha⟩ := RDat.FramePost.exists_exact h 0
  refine ⟨(ha 5).trans (arr5 m 0 _ fun t ht => ?_), (ha 6).trans (arr6 m 0 _ fun t ht => ?_), args_of_post m h 0⟩
  · exact (dat m 0).toRRel_leaves (fgt := mask) (Rl := Rl (R5 m 0) (R6 m 0)) (w := 5) rfl (hl 5 t ((flush0_5 t).mpr ht))
  · exact (dat m 0).toRRel_leaves (fgt := mask) (Rl := Rl (R5 m 0) (R6 m 0)) (w := 6) rfl (hl 6 t ((flush0_6 t).mpr ht))

end Value

end Cert.DxIdeal.Fold

end
-- ==== Proof.DxRef.lean ====
/-
  The value of the reference `ref_dx`: its one block of each result is the whole array; and the claim that the kernel
  computes the same arrays.
-/
module

public import proofs.«01_k».proof.Defs
public import proofs.«01_k».proof.Proof.DxValue
public import proofs.«01_k».proof.Proof.Gen.DxRefIdeal.Frame

@[expose] public section

noncomputable section

open Idealize.ShloMosaic Idealize.ShloMosaic.TcCoe Idealize.SL.Sem
open Idealize.ShloMosaic.Pipeline (Dat)
open Cert.Quant

namespace Cert.DxRefIdeal.Whole

open Cert.DxRefIdeal Cert.DxRefIdeal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

theorem ld_one (x : Vec F S1 .f32) (h) (j) : View.ld x (Rect.unit (s := S1) ![0] ![1] h) j = x (ix1 0) := congrArg x (idx1_eq _ _)

/-- The left and the right half of the columns. -/
def left (x : Vec F S16384x11264 .bf16) : Vec F S16384x5632 .bf16 := fun j => x (ix2 (j 0) ⟨(j 1).val, by have : (j 1).val < 5632 := (j 1).isLt; omega⟩)
def right (x : Vec F S16384x11264 .bf16) : Vec F S16384x5632 .bf16 := fun j => x (ix2 (j 0) ⟨5632 + (j 1).val, by have : (j 1).val < 5632 := (j 1).isLt; omega⟩)

theorem ld_left (x : Vec F S16384x11264 .bf16) (h) : View.ld x (Rect.unit (s := S16384x11264) ![0, 0] ![16384, 5632] h) = left x := by
  funext j
  refine congrArg x (funext fun a => Fin.ext ?_)
  match a with
  | ⟨0, _⟩ => show 0 + 1 * (j 0).val = (j 0).val; omega
  | ⟨1, _⟩ => show 0 + 1 * (j 1).val = (j 1).val; omega
theorem ld_right (x : Vec F S16384x11264 .bf16) (h) : View.ld x (Rect.unit (s := S16384x11264) ![0, 5632] ![16384, 5632] h) = right x := by
  funext j
  refine congrArg x (funext fun a => Fin.ext ?_)
  match a with
  | ⟨0, _⟩ => show 0 + 1 * (j 0).val = (j 0).val; omega
  | ⟨1, _⟩ => show 5632 + 1 * (j 1).val = 5632 + (j 1).val; omega

/-- The gradient of the input: the body's formula of its arguments. -/
theorem dx_A (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S16384x5632 .f32) (h3 : a3.IsWhole) (a4 : Memref sig .tc .vmem S16384x11264 .bf16) (h4 : a4.IsWhole) (a5 : Memref sig .tc .vmem S2048x11264 .fp8e4m3) (h5 : a5.IsWhole) (a6 : Memref sig .tc .vmem S16384x2048 .bf16) (h6 : a6.IsWhole) (a7 : Memref sig .tc .vmem S16384x11264 .fp8e5m2) (h7 : a7.IsWhole)
    (x0 : Vec F S1 .f32) (x1 : Vec F S1 .f32) (x2 : Vec F S1 .f32) (x3 : Vec F S16384x5632 .f32) (x4 : Vec F S16384x11264 .bf16) (x5 : Vec F S2048x11264 .fp8e4m3) :
    out0_A_6 c a0 h0 a1 h1 a2 h2 a3 h3 a4 h4 a5 h5 a6 h6 a7 h7 x0 x1 x2 x3 x4 x5 = k0_pay2 x3 (left x4) (right x4) (x0 (ix1 0)) x5 (x1 (ix1 0)) (x2 (ix1 0)) := by
  unfold out0_A_6
  rw [View.read_writes_eq_canon _ _ _ (cover0_A_6 c a0 h0 a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S16384x5632) hz, View.ld_unit_zero (S := S2048x11264) hz, View.ld_unit_zero (S := S1) hz1, ld_left, ld_right]
  congr 1 <;> exact ld_one _ _ _

/-- The codes likewise. -/
theorem codes_A (c : Dev nD) (a0 : Memref sig .tc .smem S1 .f32) (h0 : a0.IsWhole) (a1 : Memref sig .tc .smem S1 .f32) (h1 : a1.IsWhole) (a2 : Memref sig .tc .smem S1 .f32) (h2 : a2.IsWhole) (a3 : Memref sig .tc .vmem S16384x5632 .f32) (h3 : a3.IsWhole) (a4 : Memref sig .tc .vmem S16384x11264 .bf16) (h4 : a4.IsWhole) (a5 : Memref sig .tc .vmem S2048x11264 .fp8e4m3) (h5 : a5.IsWhole) (a6 : Memref sig .tc .vmem S16384x2048 .bf16) (h6 : a6.IsWhole) (a7 : Memref sig .tc .vmem S16384x11264 .fp8e5m2) (h7 : a7.IsWhole)
    (x0 : Vec F S1 .f32) (x1 : Vec F S1 .f32) (x2 : Vec F S1 .f32) (x3 : Vec F S16384x5632 .f32) (x4 : Vec F S16384x11264 .bf16) (x5 : Vec F S2048x11264 .fp8e4m3) :
    out0_A_7 c a0 h0 a1 h1 a2 h2 a3 h3 a4 h4 a5 h5 a6 h6 a7 h7 x0 x1 x2 x3 x4 x5 = k0_pay1 x3 (left x4) (right x4) (x0 (ix1 0)) := by
  unfold out0_A_7
  rw [View.read_writes_eq_canon _ _ _ (cover0_A_7 c a0 h0 a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h0.read_unread, h1.read_unread, h2.read_unread, h3.read_unread, h4.read_unread, h5.read_unread, View.ld_unit_zero (S := S16384x5632) hz, View.ld_unit_zero (S := S2048x11264) hz, View.ld_unit_zero (S := S1) hz1, ld_left, ld_right]
  exact congrArg _ (ld_one _ _ _)

end Cases

/-! ## The formulas at an index -/

theorem pay1_left (d g u : S16384x5632.Idx → EReal) (s : EReal) (r : Fin 16384) (f : Fin 5632) :
    k0_pay1 (F := Ideal) d g u s (ix2 r ⟨f.val, by omega⟩) = clip (dg (d (ix2 r f)) (g (ix2 r f)) (u (ix2 r f)) * s) := by
  pointwise [k0_pay1]
  rfl

theorem pay1_right (d g u : S16384x5632.Idx → EReal) (s : EReal) (r : Fin 16384) (f : Fin 5632) :
    k0_pay1 (F := Ideal) d g u s (ix2 r ⟨5632 + f.val, by omega⟩) = clip (du (d (ix2 r f)) (g (ix2 r f)) * s) := by
  pointwise [k0_pay1]
  rfl

theorem pay2_apply (d g u : S16384x5632.Idx → EReal) (s : EReal) (w : S2048x11264.Idx → EReal) (s1 s2 : EReal) (r : Fin 16384) (k : Fin 2048) :
    k0_pay2 (F := Ideal) d g u s w s1 s2 (ix2 r k) = (∑ q : Fin 11264, k0_pay1 (F := Ideal) d g u s (ix2 r q) * w (ix2 k q)) * (s1 * s2) := by
  unfold k0_pay2
  generalize k0_pay1 (F := Ideal) d g u s = C
  pointwise

/-- A column of the codes, by the half it lies in. -/
theorem codes_apply (d : S16384x5632.Idx → EReal) (gu : S16384x11264.Idx → EReal) (s : EReal) (r : Fin 16384) (q : Fin 11264) :
    k0_pay1 (F := Ideal) d (left (F := Ideal) gu) (right (F := Ideal) gu) s (ix2 r q)
      = if h : q.val < 5632 then clip (dg (d (ix2 r ⟨q.val, h⟩)) (gu (ix2 r ⟨q.val, by omega⟩)) (gu (ix2 r ⟨5632 + q.val, by omega⟩)) * s)
        else clip (du (d (ix2 r ⟨q.val - 5632, by omega⟩)) (gu (ix2 r ⟨q.val - 5632, by omega⟩)) * s) := by
  by_cases h : q.val < 5632
  · rw [dif_pos h]
    exact pay1_left d (left (F := Ideal) gu) (right (F := Ideal) gu) s r ⟨q.val, h⟩
  · rw [dif_neg h]
    have hlt : q.val - 5632 < 5632 := by have := q.isLt; omega
    have e := pay1_right d (left (F := Ideal) gu) (right (F := Ideal) gu) s r ⟨q.val - 5632, hlt⟩
    have eq : q = ⟨5632 + (⟨q.val - 5632, hlt⟩ : Fin 5632).val, by dsimp only; omega⟩ := Fin.ext (by dsimp only; omega)
    exact (congrArg (fun z => k0_pay1 (F := Ideal) d (left (F := Ideal) gu) (right (F := Ideal) gu) s (ix2 r z)) eq).trans e

section Value
variable (m : (ℓ : Loc nD τ sig) → Buf (Elt Ideal) ℓ) (ρ : Dev nD → PrngReg)

/-- The one grid point. -/
abbrev t0 : Fin cfg0.N := ⟨0, by decide⟩

theorem idx3 : ∀ a, win0_3.index t0 a = 0 := by decide
theorem idx4 : ∀ a, win0_4.index t0 a = 0 := by decide
theorem idx5 : ∀ a, win0_5.index t0 a = 0 := by decide
theorem idx6 : ∀ a, win0_6.index t0 a = 0 := by decide
theorem idx7 : ∀ a, win0_7.index t0 a = 0 := by decide

theorem iblk0_apply (c : Dev nD) : (iblk m c 0 t0 : S1.Idx → EReal) (ix1 0) = (V m c main_v0 : S1.Idx → EReal) (ix1 0) := by
  show V m c main_v0 _ = V m c main_v0 _
  exact congrArg (V m c main_v0 : S1.Idx → EReal) (idx1_eq _ _)
theorem iblk1_apply (c : Dev nD) : (iblk m c 1 t0 : S1.Idx → EReal) (ix1 0) = (V m c main_v1 : S1.Idx → EReal) (ix1 0) := by
  show V m c main_v1 _ = V m c main_v1 _
  exact congrArg (V m c main_v1 : S1.Idx → EReal) (idx1_eq _ _)
theorem iblk2_apply (c : Dev nD) : (iblk m c 2 t0 : S1.Idx → EReal) (ix1 0) = (V m c main_v2 : S1.Idx → EReal) (ix1 0) := by
  show V m c main_v2 _ = V m c main_v2 _
  exact congrArg (V m c main_v2 : S1.Idx → EReal) (idx1_eq _ _)
theorem iblk3_eq (c : Dev nD) : (iblk m c 3 t0 : S16384x5632.Idx → EReal) = V m c main_arg3 := by
  funext j
  show V m c main_arg3 _ = V m c main_arg3 _
  congr 1
  funext a
  apply Fin.ext
  match a with
  | ⟨0, _⟩ => show win0_3.index t0 0 * 16384 + 1 * (j 0).val = (j 0).val; rw [idx3]; omega
  | ⟨1, _⟩ => show win0_3.index t0 1 * 5632 + 1 * (j 1).val = (j 1).val; rw [idx3]; omega
theorem iblk4_eq (c : Dev nD) : (iblk m c 4 t0 : S16384x11264.Idx → EReal) = V m c main_v3 := by
  funext j
  show V m c main_v3 _ = V m c main_v3 _
  congr 1
  funext a
  apply Fin.ext
  match a with
  | ⟨0, _⟩ => show win0_4.index t0 0 * 16384 + 1 * (j 0).val = (j 0).val; rw [idx4]; omega
  | ⟨1, _⟩ => show win0_4.index t0 1 * 11264 + 1 * (j 1).val = (j 1).val; rw [idx4]; omega
theorem iblk5_eq (c : Dev nD) : (iblk m c 5 t0 : S2048x11264.Idx → EReal) = V m c main_arg5 := by
  funext j
  show V m c main_arg5 _ = V m c main_arg5 _
  congr 1
  funext a
  apply Fin.ext
  match a with
  | ⟨0, _⟩ => show win0_5.index t0 0 * 2048 + 1 * (j 0).val = (j 0).val; rw [idx5]; omega
  | ⟨1, _⟩ => show win0_5.index t0 1 * 11264 + 1 * (j 1).val = (j 1).val; rw [idx5]; omega

/-- The arguments as the region finds them. -/
abbrev inv (c : Dev nD) : EReal := (V m c main_v0 : S1.Idx → EReal) (ix1 0)
abbrev s1 (c : Dev nD) : EReal := (V m c main_v1 : S1.Idx → EReal) (ix1 0)
abbrev s2 (c : Dev nD) : EReal := (V m c main_v2 : S1.Idx → EReal) (ix1 0)
abbrev DA (c : Dev nD) : S16384x5632.Idx → EReal := V m c main_arg3
abbrev GU (c : Dev nD) : S16384x11264.Idx → EReal := V m c main_v3
abbrev W1 (c : Dev nD) : S2048x11264.Idx → EReal := V m c main_arg5

theorem outs6 (c : Dev nD) : (outsAt0 m c t0).1 = k0_pay2 (F := Ideal) (DA m c) (left (F := Ideal) (GU m c)) (right (F := Ideal) (GU m c)) (inv m c) (W1 m c) (s1 m c) (s2 m c) := by
  unfold outsAt0
  dsimp only
  rw [dx_A, iblk0_apply, iblk1_apply, iblk2_apply, iblk3_eq, iblk4_eq, iblk5_eq]

theorem outs7 (c : Dev nD) : (outsAt0 m c t0).2 = k0_pay1 (F := Ideal) (DA m c) (left (F := Ideal) (GU m c)) (right (F := Ideal) (GU m c)) (inv m c) := by
  unfold outsAt0
  dsimp only
  rw [codes_A, iblk0_apply, iblk3_eq, iblk4_eq]

/-- The array of gradients at the end. -/
theorem arr6 (c : Dev nD) : (dats m 0 c).arrAt 6 cfg0.N = (outsAt0 m c t0).1 := by
  have h : ∀ y : S16384x2048.Idx, ((cfg0.win 6).blk t0).view.emb y = y := by
    intro y
    funext a
    apply Fin.ext
    match a with
    | ⟨0, _⟩ => show win0_6.index t0 0 * 16384 + 1 * (y 0).val = (y 0).val; rw [idx6]; omega
    | ⟨1, _⟩ => show win0_6.index t0 1 * 2048 + 1 * (y 1).val = (y 1).val; rw [idx6]; omega
  refine (dats m 0 c).arrAt_eq_of_cover 6 _ (fun t _ => ?_) fun i => ⟨t0, by decide, ?_⟩
  · obtain rfl : t = t0 := Fin.ext (by have := lt_of_lt_of_eq t.isLt N_0; show t.val = 0; omega)
    show (cfg0.win 6).cut (grid0.coords t0) ((dats m 0 c).after 6 t0) = _
    rw [after0_6]
    funext y
    show (outsAt0 m c t0).1 y = (outsAt0 m c t0).1 (((cfg0.win 6).blk t0).view.emb y)
    exact congrArg _ (h y).symm
  · have e := ((cfg0.win 6).blk t0).view.emb_mem_set i
    rwa [h] at e

/-- The array of codes at the end. -/
theorem arr7 (c : Dev nD) : (dats m 0 c).arrAt 7 cfg0.N = (outsAt0 m c t0).2 := by
  have h : ∀ y : S16384x11264.Idx, ((cfg0.win 7).blk t0).view.emb y = y := by
    intro y
    funext a
    apply Fin.ext
    match a with
    | ⟨0, _⟩ => show win0_7.index t0 0 * 16384 + 1 * (y 0).val = (y 0).val; rw [idx7]; omega
    | ⟨1, _⟩ => show win0_7.index t0 1 * 11264 + 1 * (y 1).val = (y 1).val; rw [idx7]; omega
  refine (dats m 0 c).arrAt_eq_of_cover 7 _ (fun t _ => ?_) fun i => ⟨t0, by decide, ?_⟩
  · obtain rfl : t = t0 := Fin.ext (by have := lt_of_lt_of_eq t.isLt N_0; show t.val = 0; omega)
    show (cfg0.win 7).cut (grid0.coords t0) ((dats m 0 c).after 7 t0) = _
    rw [after0_7]
    funext y
    show (outsAt0 m c t0).2 y = (outsAt0 m c t0).2 (((cfg0.win 7).blk t0).view.emb y)
    exact congrArg _ (h y).symm
  · have e := ((cfg0.win 7).blk t0).view.emb_mem_set i
    rwa [h] at e

/-- The run: the gradients and the codes; the arguments unchanged. -/
theorem run : θ_run defs (onTc (τ := τ) (main (F := Ideal))) ⟨m, fun _ => 0, ρ⟩ fun r => ∀ c : Dev nD,
      r.2.mem ((c.tc : Thread nD τ).loc main_v4_0) = (outsAt0 m c t0).1
      ∧ r.2.mem ((c.tc : Thread nD τ).loc main_v4_1) = (outsAt0 m c t0).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).1 6).trans (arr6 m c),
      ((h c).1 7).trans (arr7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Value

end Cert.DxRefIdeal.Whole

namespace Cert.DxAgree

/-! The arguments as the two regions find them. -/

theorem kGU (m : (ℓ : Loc DxIdeal.nD DxIdeal.τ DxIdeal.sig) → Buf (Elt Ideal) ℓ) (c : Dev DxIdeal.nD) :
    DxIdeal.Fold.GU m c = shapeCast DxIdeal.S16384x11264 (m ((c.tc : Thread DxIdeal.nD DxIdeal.τ).loc DxIdeal.main_arg4)) DxIdeal.Gen.shapeCasts_S16x1024x11264_S16384x11264 := by
  unfold DxIdeal.Fold.GU
  entry_read
  try rfl

theorem rGU (m : (ℓ : Loc DxRefIdeal.nD DxRefIdeal.τ DxRefIdeal.sig) → Buf (Elt Ideal) ℓ) (c : Dev DxRefIdeal.nD) :
    DxRefIdeal.Whole.GU m c = shapeCast DxRefIdeal.S16384x11264 (m ((c.tc : Thread DxRefIdeal.nD DxRefIdeal.τ).loc DxRefIdeal.main_arg4)) DxRefIdeal.Gen.shapeCasts_S16x1024x11264_S16384x11264 := by
  unfold DxRefIdeal.Whole.GU
  entry_read
  try rfl

/-- Two scalars as a vector of two. -/
def stack (x y : FVec Ideal DxIdeal.S_ .f32) : FVec Ideal DxIdeal.S2 .f32 :=
  concatenate DxIdeal.S2 0 [⟨DxIdeal.S1, broadcastInDim DxIdeal.S1 ![] DxIdeal.Gen.bcast_S_S1 x⟩, ⟨DxIdeal.S1, broadcastInDim DxIdeal.S1 ![] DxIdeal.Gen.bcast_S_S1 y⟩] DxIdeal.Gen.concatenates_S1_S1_S2_d0

theorem kSC (m : (ℓ : Loc DxIdeal.nD DxIdeal.τ DxIdeal.sig) → Buf (Elt Ideal) ℓ) (c : Dev DxIdeal.nD) :
    DxIdeal.Fold.SC m c = stack (m ((c.tc : Thread DxIdeal.nD DxIdeal.τ).loc DxIdeal.main_arg0)) (mulf (φ := .f32) (s := DxIdeal.S_) (m ((c.tc : Thread DxIdeal.nD DxIdeal.τ).loc DxIdeal.main_arg1)) (m ((c.tc : Thread DxIdeal.nD DxIdeal.τ).loc DxIdeal.main_arg2))) := by
  unfold DxIdeal.Fold.SC
  entry_read
  rfl

theorem rS0 (m : (ℓ : Loc DxRefIdeal.nD DxRefIdeal.τ DxRefIdeal.sig) → Buf (Elt Ideal) ℓ) (c : Dev DxRefIdeal.nD) :
    (DxRefIdeal.Gen.V m c DxRefIdeal.main_v0 : DxRefIdeal.S1.Idx → EReal) = broadcastInDim DxRefIdeal.S1 ![] DxRefIdeal.Gen.bcast_S_S1 (m ((c.tc : Thread DxRefIdeal.nD DxRefIdeal.τ).loc DxRefIdeal.main_arg0)) := by
  entry_read
  try rfl

theorem rS1 (m : (ℓ : Loc DxRefIdeal.nD DxRefIdeal.τ DxRefIdeal.sig) → Buf (Elt Ideal) ℓ) (c : Dev DxRefIdeal.nD) :
    (DxRefIdeal.Gen.V m c DxRefIdeal.main_v1 : DxRefIdeal.S1.Idx → EReal) = broadcastInDim DxRefIdeal.S1 ![] DxRefIdeal.Gen.bcast_S_S1 (m ((c.tc : Thread DxRefIdeal.nD DxRefIdeal.τ).loc DxRefIdeal.main_arg1)) := by
  entry_read
  try rfl

theorem rS2 (m : (ℓ : Loc DxRefIdeal.nD DxRefIdeal.τ DxRefIdeal.sig) → Buf (Elt Ideal) ℓ) (c : Dev DxRefIdeal.nD) :
    (DxRefIdeal.Gen.V m c DxRefIdeal.main_v2 : DxRefIdeal.S1.Idx → EReal) = broadcastInDim DxRefIdeal.S1 ![] DxRefIdeal.Gen.bcast_S_S1 (m ((c.tc : Thread DxRefIdeal.nD DxRefIdeal.τ).loc DxRefIdeal.main_arg2)) := by
  entry_read
  try rfl

section
variable (m : (ℓ : Loc DxIdeal.nD DxIdeal.τ DxIdeal.sig) → Buf (Elt Ideal) ℓ)
    (m' : (ℓ : Loc DxRefIdeal.nD DxRefIdeal.τ DxRefIdeal.sig) → Buf (Elt Ideal) ℓ) (c : Dev DxIdeal.nD)

/-- The two programs' arguments agree. -/
abbrev Agree : Prop :=
  m' ((c.tc : Thread DxRefIdeal.nD DxRefIdeal.τ).loc DxRefIdeal.main_arg0) = m ((c.tc : Thread DxIdeal.nD DxIdeal.τ).loc DxIdeal.main_arg0)
  ∧ m' ((c.tc : Thread DxRefIdeal.nD DxRefIdeal.τ).loc DxRefIdeal.main_arg1) = m ((c.tc : Thread DxIdeal.nD DxIdeal.τ).loc DxIdeal.main_arg1)
  ∧ m' ((c.tc : Thread DxRefIdeal.nD DxRefIdeal.τ).loc DxRefIdeal.main_arg2) = m ((c.tc : Thread DxIdeal.nD DxIdeal.τ).loc DxIdeal.main_arg2)
  ∧ m' ((c.tc : Thread DxRefIdeal.nD DxRefIdeal.τ).loc DxRefIdeal.main_arg3) = m ((c.tc : Thread DxIdeal.nD DxIdeal.τ).loc DxIdeal.main_arg3)
  ∧ m' ((c.tc : Thread DxRefIdeal.nD DxRefIdeal.τ).loc DxRefIdeal.main_arg4) = m ((c.tc : Thread DxIdeal.nD DxIdeal.τ).loc DxIdeal.main_arg4)
  ∧ m' ((c.tc : Thread DxRefIdeal.nD DxRefIdeal.τ).loc DxRefIdeal.main_arg5) = m ((c.tc : Thread DxIdeal.nD DxIdeal.τ).loc DxIdeal.main_arg5)

variable {m m' c}

theorem da (h : Agree m m' c) : DxRefIdeal.Whole.DA m' c = DxIdeal.Fold.DA m c := by
  unfold DxRefIdeal.Whole.DA DxIdeal.Fold.DA
  rw [DxRefIdeal.Gen.V_main_arg3, DxIdeal.Gen.V_main_arg3]
  exact h.2.2.2.1

theorem gu (h : Agree m m' c) : DxRefIdeal.Whole.GU m' c = DxIdeal.Fold.GU m c := by
  rw [rGU, kGU, h.2.2.2.2.1]

theorem w1 (h : Agree m m' c) : DxRefIdeal.Whole.W1 m' c = DxIdeal.Fold.W1 m c := by
  unfold DxRefIdeal.Whole.W1 DxIdeal.Fold.W1
  rw [DxRefIdeal.Gen.V_main_arg5, DxIdeal.Gen.V_main_arg5]
  exact h.2.2.2.2.2

/-- A scalar's one-element vector. -/
theorem bc_apply (x : FVec Ideal DxRefIdeal.S_ .f32) :
    (broadcastInDim DxRefIdeal.S1 ![] DxRefIdeal.Gen.bcast_S_S1 x : DxRefIdeal.S1.Idx → EReal) (ix1 0) = x ix0 := by
  pointwise

theorem stack_0 (x y : FVec Ideal DxIdeal.S_ .f32) : (stack x y : DxIdeal.S2.Idx → EReal) (ix1 0) = x ix0 := by
  pointwise [stack]

theorem stack_1 (x y : FVec Ideal DxIdeal.S_ .f32) : (stack x y : DxIdeal.S2.Idx → EReal) (ix1 1) = y ix0 := by
  pointwise [stack]

theorem inv (h : Agree m m' c) : DxRefIdeal.Whole.inv m' c = DxIdeal.Fold.SC m c (ix1 0) := by
  unfold DxRefIdeal.Whole.inv
  rw [rS0, kSC, h.1]
  exact (bc_apply _).trans (stack_0 _ _).symm

theorem s (h : Agree m m' c) : DxRefIdeal.Whole.s1 m' c * DxRefIdeal.Whole.s2 m' c = DxIdeal.Fold.SC m c (ix1 1) := by
  unfold DxRefIdeal.Whole.s1 DxRefIdeal.Whole.s2
  rw [rS1, rS2, kSC, h.2.1, h.2.2.1]
  refine (congrArg₂ (fun a b : EReal => a * b) (bc_apply _) (bc_apply _)).trans ?_
  rw [stack_1]
  rfl

theorem cd (h : Agree m m' c) (r : Fin 16384) (q : Fin 11264) :
    DxRefIdeal.Gen.k0_pay1 (F := Ideal) (DxRefIdeal.Whole.DA m' c) (DxRefIdeal.Whole.left (F := Ideal) (DxRefIdeal.Whole.GU m' c)) (DxRefIdeal.Whole.right (F := Ideal) (DxRefIdeal.Whole.GU m' c)) (DxRefIdeal.Whole.inv m' c) (ix2 r q)
      = DxIdeal.Fold.CD m c r q := by
  rw [DxRefIdeal.Whole.codes_apply, inv h, da h, gu h]
  rfl

/-- The codes agree. -/
theorem codes (h : Agree m m' c) : (DxRefIdeal.Gen.outsAt0 m' c DxRefIdeal.Whole.t0).2 = fun i : DxIdeal.S16384x11264.Idx => DxIdeal.Fold.CD m c (i 0) (i 1) := by
  rw [DxRefIdeal.Whole.outs7]
  funext i
  exact (congrArg _ (DxIdeal.Fold.ix_eta i)).trans (cd h (i 0) (i 1))

/-- The gradients agree. -/
theorem dx (h : Agree m m' c) : (DxRefIdeal.Gen.outsAt0 m' c DxRefIdeal.Whole.t0).1 = fun i : DxIdeal.S16384x2048.Idx => DxIdeal.Fold.DX m c (i 0) (i 1) := by
  rw [DxRefIdeal.Whole.outs6]
  funext i
  refine (congrArg _ (DxIdeal.Fold.ix_eta i)).trans ((DxRefIdeal.Whole.pay2_apply _ _ _ _ _ _ _ (i 0) (i 1)).trans ?_)
  rw [s h, w1 h]
  unfold DxIdeal.Fold.DX
  refine congrArg (fun x : EReal => x * DxIdeal.Fold.SC m c (ix1 1)) (Finset.sum_congr rfl fun q _ => ?_)
  exact congrArg (fun x : EReal => x * DxIdeal.Fold.W1 m c (ix2 (i 1) q)) (cd h (i 0) q)

end

end Cert.DxAgree

namespace Cert

/-- The kernel `dx` and the reference end with the same gradients and the same codes. -/
theorem algebraic_dx : algebraic_DxIdeal_DxRefIdeal (hDxIdeal := DxIdeal.Gen.facts) (hDxRefIdeal := DxRefIdeal.Gen.facts) := by
  intro m g m' g' _ hagree
  refine ⟨_, _, DxIdeal.Fold.run m g,
    (θ_run _ _ _).mono (fun r h c => ⟨(h c).1.trans ?_, (h c).2.1.trans ?_, (h c).2.2⟩) (DxRefIdeal.Whole.run m' g')⟩
  · exact DxAgree.dx (hagree c)
  · exact DxAgree.codes (hagree c)

end Cert

end
-- ==== Proof.Sums.lean ====
/-
  Sums over a contracted axis cut into equal blocks, on the extended reals.
-/
module

public import Idealize.ShloMosaic.PureOps.Ideal

@[expose] public section

namespace Cert.Sums

/-- Summing `n` blocks of `b` consecutive terms each is summing the first `n * b` terms. -/
theorem sum_blocks (f : ℕ → EReal) (b n : ℕ) :
    (∑ k ∈ Finset.range n, ∑ r ∈ Finset.range b, f (b * k + r)) = ∑ r ∈ Finset.range (b * n), f r := by
  induction n with
  | zero => simp
  | succ n ih => rw [Finset.sum_range_succ, ih, Nat.mul_succ, Finset.sum_range_add]

/-- A sum over `Fin n` of a function of the position is the sum over the first `n` naturals. -/
theorem sum_fin (f : ℕ → EReal) (n : ℕ) : (∑ r : Fin n, f r.val) = ∑ r ∈ Finset.range n, f r :=
  (Finset.sum_range f).symm

end Cert.Sums
-- ==== Proof.Dw1Kernel.lean ====
/-
  The value of the weight-gradient kernel `dw1`: the array it leaves holds, at row `i` and column `j`, the whole
  contraction over the 16384 tokens times the scale.
-/
module

public import proofs.«01_k».proof.Proof.Sums
public import proofs.«01_k».proof.Proof.Gen.Dw1Ideal.Value
public import Idealize.ShloMosaic.Lib.Pipeline.Value
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)

namespace Cert.Dw1Ideal.Fold

open Cert.Dw1Ideal Cert.Dw1Ideal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

/-- At the first block of a contraction the accumulator ends holding the zero block plus the product of the blocks. -/
theorem sout_A (c : Dev nD) (i : grid0.Coords) (a3 : Memref sig .tc .smem S1 .f32) (h3 : a3.IsWhole) (a4 : Memref sig .tc .vmem S2048x2048 .fp8e4m3) (h4 : a4.IsWhole) (a5 : Memref sig .tc .vmem S2048x1024 .fp8e5m2) (h5 : a5.IsWhole) (a6 : Memref sig .tc .vmem S2048x1024 .bf16) (h6 : a6.IsWhole) (a7 : Memref sig .tc .vmem S2048x1024 .f32) (h7 : a7.IsWhole) (hc0 : cond0_0 i) (hc1 : ¬cond0_1 i)
    (x0 : Vec F S1 .f32) (x1 : Vec F S2048x2048 .fp8e4m3) (x2 : Vec F S2048x1024 .fp8e5m2) :
    sout0_A_0 c i a3 h3 a4 h4 a5 h5 a6 h6 a7 h7 hc0 hc1 x0 x1 x2 = k0_pay2 k0_pay1 x1 x2 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h4.read_unread, h5.read_unread, View.ld_unit_zero (S := S2048x1024) hz, View.ld_unit_zero (S := S2048x2048) hz]

/-- At a later block it ends holding what it held plus the product of the blocks. -/
theorem sout_B (c : Dev nD) (i : grid0.Coords) (a3 : Memref sig .tc .smem S1 .f32) (h3 : a3.IsWhole) (a4 : Memref sig .tc .vmem S2048x2048 .fp8e4m3) (h4 : a4.IsWhole) (a5 : Memref sig .tc .vmem S2048x1024 .fp8e5m2) (h5 : a5.IsWhole) (a6 : Memref sig .tc .vmem S2048x1024 .bf16) (h6 : a6.IsWhole) (a7 : Memref sig .tc .vmem S2048x1024 .f32) (h7 : a7.IsWhole) (hc0 : ¬cond0_0 i) (hc1 : ¬cond0_1 i)
    (x0 : Vec F S1 .f32) (x1 : Vec F S2048x2048 .fp8e4m3) (x2 : Vec F S2048x1024 .fp8e5m2) (xs : Vec F S2048x1024 .f32) :
    sout0_B_0 c i a3 h3 a4 h4 a5 h5 a6 h6 a7 h7 hc0 hc1 x0 x1 x2 xs = k0_pay2 xs x1 x2 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h4.read_unread, h5.read_unread, h7.read_unread, View.ld_unit_zero (S := S2048x1024) hz, View.ld_unit_zero (S := S2048x2048) hz]

/-- At the last block likewise. -/
theorem sout_C (c : Dev nD) (i : grid0.Coords) (a3 : Memref sig .tc .smem S1 .f32) (h3 : a3.IsWhole) (a4 : Memref sig .tc .vmem S2048x2048 .fp8e4m3) (h4 : a4.IsWhole) (a5 : Memref sig .tc .vmem S2048x1024 .fp8e5m2) (h5 : a5.IsWhole) (a6 : Memref sig .tc .vmem S2048x1024 .bf16) (h6 : a6.IsWhole) (a7 : Memref sig .tc .vmem S2048x1024 .f32) (h7 : a7.IsWhole) (hc0 : ¬cond0_0 i) (hc1 : cond0_1 i)
    (x0 : Vec F S1 .f32) (x1 : Vec F S2048x2048 .fp8e4m3) (x2 : Vec F S2048x1024 .fp8e5m2) (xs : Vec F S2048x1024 .f32) :
    sout0_C_0 c i a3 h3 a4 h4 a5 h5 a6 h6 a7 h7 hc0 hc1 x0 x1 x2 xs = k0_pay2 xs x1 x2 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h4.read_unread, h5.read_unread, h7.read_unread, View.ld_unit_zero (S := S2048x1024) hz, View.ld_unit_zero (S := S2048x2048) hz]

/-- At the last block the result block is the accumulator's new contents, scaled and rounded. -/
theorem out_C (c : Dev nD) (i : grid0.Coords) (a3 : Memref sig .tc .smem S1 .f32) (h3 : a3.IsWhole) (a4 : Memref sig .tc .vmem S2048x2048 .fp8e4m3) (h4 : a4.IsWhole) (a5 : Memref sig .tc .vmem S2048x1024 .fp8e5m2) (h5 : a5.IsWhole) (a6 : Memref sig .tc .vmem S2048x1024 .bf16) (h6 : a6.IsWhole) (a7 : Memref sig .tc .vmem S2048x1024 .f32) (h7 : a7.IsWhole) (hc0 : ¬cond0_0 i) (hc1 : cond0_1 i)
    (x0 : Vec F S1 .f32) (x1 : Vec F S2048x2048 .fp8e4m3) (x2 : Vec F S2048x1024 .fp8e5m2) (xs : Vec F S2048x1024 .f32) :
    out0_C_3 c i a3 h3 a4 h4 a5 h5 a6 h6 a7 h7 hc0 hc1 x0 x1 x2 xs = k0_pay3 (k0_pay2 xs x1 x2) (x0 (ix1 0)) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread, View.ld_unit_zero (S := S2048x1024) hz, View.ld_unit_zero (S := S2048x2048) hz]
  rw [View.ld_unit_zero (S := S1) hz1]
  exact congrArg (fun j => k0_pay3 (k0_pay2 xs x1 x2) (x0 j)) (idx1_eq _ _)

end Cases

section Value
variable (m : (ℓ : Loc nD τ sig) → Buf (Elt Ideal) ℓ) (ρ : Dev nD → PrngReg)

/-- The left operand as the region finds it: the tokens' rows, flattened. -/
abbrev L (c : Dev nD) : S16384x2048.Idx → EReal := V m c main_v2
/-- The right operand as the region finds it. -/
abbrev R (c : Dev nD) : S16384x11264.Idx → EReal := V m c main_arg3

/-- Which blocks of the operands a grid point reads: the contraction's block `t % 8`, the columns' block `t / 8`. -/
theorem idx_in : ∀ t : Fin cfg0.N, win0_1.index t (0 : Fin 2) = t.val % 8 ∧ win0_1.index t (1 : Fin 2) = 0
    ∧ win0_2.index t (0 : Fin 2) = t.val % 8 ∧ win0_2.index t (1 : Fin 2) = t.val / 8 :=
  (by decide +kernel : ∀ t : Fin grid0.N, _)

/-- The left block read at an index. -/
theorem iblk1_apply (c : Dev nD) (t : Fin cfg0.N) (r : Fin 2048) (j : Fin 2048) :
    (iblk m c 1 t : S2048x2048.Idx → EReal) (ix2 r j) = L m c (ix2 (Fin.ofNat 16384 (2048 * (t.val % 8) + r.val)) j) := by
  obtain ⟨e0, e1, -, -⟩ := idx_in t
  have hr := r.isLt
  have hm := Nat.mod_lt t.val (show 0 < 8 by decide)
  show V m c main_v2 _ = V m c main_v2 _
  congr 1
  funext a
  apply Fin.ext
  match a with
  | ⟨0, _⟩ => show win0_1.index t 0 * 2048 + 1 * r.val = (2048 * (t.val % 8) + r.val) % 16384; rw [e0]; omega
  | ⟨1, _⟩ => show win0_1.index t 1 * 2048 + 1 * j.val = j.val; rw [e1]; omega

/-- The right block read at an index. -/
theorem iblk2_apply (c : Dev nD) (t : Fin cfg0.N) (r : Fin 2048) (j : Fin 1024) :
    (iblk m c 2 t : S2048x1024.Idx → EReal) (ix2 r j)
      = R m c (ix2 (Fin.ofNat 16384 (2048 * (t.val % 8) + r.val)) (Fin.ofNat 11264 (1024 * (t.val / 8) + j.val))) := by
  obtain ⟨-, -, e0, e1⟩ := idx_in t
  have hr := r.isLt
  have hj := j.isLt
  have hm := Nat.mod_lt t.val (show 0 < 8 by decide)
  have hN : t.val < 88 := lt_of_lt_of_eq t.isLt N_0
  show V m c main_arg3 _ = V m c main_arg3 _
  congr 1
  funext a
  apply Fin.ext
  match a with
  | ⟨0, _⟩ => show win0_2.index t 0 * 2048 + 1 * r.val = (2048 * (t.val % 8) + r.val) % 16384; rw [e0]; omega
  | ⟨1, _⟩ => show win0_2.index t 1 * 1024 + 1 * j.val = (1024 * (t.val / 8) + j.val) % 11264; rw [e1]; omega

/-- Term `r` of the contraction over the tokens, for row `i` of the result and column `j` of its block `q`. -/
abbrev term (c : Dev nD) (q : ℕ) (i : Fin 2048) (j : Fin 1024) (r : ℕ) : EReal :=
  L m c (ix2 (Fin.ofNat 16384 r) i) * R m c (ix2 (Fin.ofNat 16384 r) (Fin.ofNat 11264 (1024 * q + j.val)))

/-- The product of a point's two blocks, at an index: its 2048 terms of the contraction. -/
theorem step_apply (c : Dev nD) (t : Fin cfg0.N) (xs : S2048x1024.Idx → EReal) (i : Fin 2048) (j : Fin 1024) :
    k0_pay2 (F := Ideal) xs (iblk m c 1 t) (iblk m c 2 t) (ix2 i j)
      = xs (ix2 i j) + ∑ r ∈ Finset.range 2048, term m c (t.val / 8) i j (2048 * (t.val % 8) + r) := by
  rw [← Sums.sum_fin]
  have e : ∀ (x1 : S2048x2048.Idx → EReal) (x2 : S2048x1024.Idx → EReal),
      k0_pay2 (F := Ideal) xs x1 x2 (ix2 i j) = xs (ix2 i j) + ∑ r : Fin 2048, x1 (ix2 r i) * x2 (ix2 r j) := by
    intro x1 x2
    pointwise [k0_pay2]
  rw [e]
  refine congrArg (xs (ix2 i j) + ·) (Finset.sum_congr rfl fun r _ => ?_)
  rw [iblk1_apply, iblk2_apply]

/-- After the point `n` the accumulator holds the terms of the blocks `0 … n % 8` of the contraction. -/
theorem acc_apply (c : Dev nD) : ∀ (n : ℕ) (h : n < cfg0.N) (i : Fin 2048) (j : Fin 1024),
    (outsAt0 m c n h).2 (ix2 i j) = ∑ r ∈ Finset.range (2048 * (n % 8 + 1)), term m c (n / 8) i j r := by
  intro n
  induction n with
  | zero =>
    intro h i j
    rw [outsAt0_A m c ⟨0, h⟩ (by rfl) (by dsimp only; omega)]
    dsimp only
    rw [sout_A, step_apply]
    have z : (k0_pay1 (F := Ideal)) (ix2 i j) = 0 := by pointwise [k0_pay1]
    rw [z, zero_add]
    simp
  | succ n ih =>
    intro h i j
    have hN : n + 1 < 88 := lt_of_lt_of_eq h N_0
    have key : ∀ xs : S2048x1024.Idx → EReal, ¬(n + 1) % 8 = 0 → xs = (outsAt0 m c n (Nat.lt_of_succ_lt h)).2 →
        k0_pay2 (F := Ideal) xs (iblk m c 1 ⟨n + 1, h⟩) (iblk m c 2 ⟨n + 1, h⟩) (ix2 i j)
          = ∑ r ∈ Finset.range (2048 * ((n + 1) % 8 + 1)), term m c ((n + 1) / 8) i j r := by
      intro xs h0 hxs
      rw [step_apply, hxs, ih, Nat.mul_succ 2048 ((n + 1) % 8), Finset.sum_range_add]
      dsimp only
      rw [show n / 8 = (n + 1) / 8 by omega, show n % 8 + 1 = (n + 1) % 8 by omega]
    by_cases h0 : (n + 1) % 8 = 0
    · rw [outsAt0_A m c ⟨n + 1, h⟩ h0 (by dsimp only; omega)]
      dsimp only
      rw [sout_A, step_apply]
      have z : (k0_pay1 (F := Ideal)) (ix2 i j) = 0 := by pointwise [k0_pay1]
      rw [z, zero_add]
      dsimp only
      rw [h0]
      simp
    · by_cases h1 : (n + 1) % 8 = 7
      · rw [outsAt0_C m c ⟨n + 1, h⟩ h0 h1]
        dsimp only
        rw [sout_C]
        exact key _ h0 rfl
      · rw [outsAt0_B m c ⟨n + 1, h⟩ h0 h1]
        dsimp only
        rw [sout_B]
        exact key _ h0 rfl

/-- THE RESULT: the contraction over all the tokens, times the scale the program computes before the kernel. -/
def result (c : Dev nD) : S2048x11264.Idx → EReal := fun i =>
  (∑ r : Fin 16384, L m c (ix2 r (i 0)) * R m c (ix2 r (i 1))) * (V m c main_v1 : S1.Idx → EReal) (ix1 0)

/-- The scale's block is the scale. -/
theorem iblk0_apply (c : Dev nD) (t : Fin cfg0.N) : (iblk m c 0 t : S1.Idx → EReal) (ix1 0) = (V m c main_v1 : S1.Idx → EReal) (ix1 0) := by
  show V m c main_v1 _ = V m c main_v1 _
  exact congrArg (V m c main_v1 : S1.Idx → EReal) (idx1_eq _ _)

/-- What the array ends holding is the result, index by index. -/
theorem G3_eq (c : Dev nD) : Value.G3 m c = result m c := by
  funext i
  have hi0 : (i 0).val < 2048 := (i 0).isLt
  have hi1 : (i 1).val < 11264 := (i 1).isLt
  have hp : Value.pt3Of i = 8 * ((i 1).val / 1024) + 7 := by
    unfold Value.pt3Of Value.run3Of; omega
  have hlt : Value.pt3Of i < cfg0.N := lt_of_lt_of_eq (by omega) N_0.symm
  unfold Value.G3
  rw [dif_pos hlt]
  have e := Value.outsAt0_sweep m c (Value.pt3Of i) hlt
  have hloc : Value.loc3Of i = ix2 (Fin.ofNat 2048 (i 0).val) (Fin.ofNat 1024 (i 1).val) := by
    funext a; match a with
    | ⟨0, _⟩ => rfl
    | ⟨1, _⟩ => rfl
  rw [← e, hloc]
  have hacc := acc_apply m c (Value.pt3Of i) hlt (Fin.ofNat 2048 (i 0).val) (Fin.ofNat 1024 (i 1).val)
  rw [outsAt0_C m c ⟨Value.pt3Of i, hlt⟩ (by dsimp only; omega) (by dsimp only; omega)] at hacc ⊢
  dsimp only at hacc ⊢
  rw [sout_C] at hacc
  rw [out_C]
  have pay : ∀ (x : S2048x1024.Idx → EReal) (y : EReal) j, k0_pay3 (F := Ideal) x y j = x j * y := by
    intro x y j; pointwise [k0_pay3]
  rw [pay, hacc, iblk0_apply]
  unfold result
  refine congrArg (· * _) ?_
  rw [show 2048 * (Value.pt3Of i % 8 + 1) = 16384 by omega, ← Sums.sum_fin]
  refine Finset.sum_congr rfl fun r _ => ?_
  have hr := r.isLt
  unfold term
  congr 2
  · funext a; apply Fin.ext
    match a with
    | ⟨0, _⟩ => show r.val % 16384 = r.val; omega
    | ⟨1, _⟩ => show (i 0).val % 2048 = (i 0).val; omega
  · funext a; apply Fin.ext
    match a with
    | ⟨0, _⟩ => show r.val % 16384 = r.val; omega
    | ⟨1, _⟩ => show (1024 * (Value.pt3Of i / 8) + (i 1).val % 1024) % 11264 = (i 1).val; omega

end Value

end Cert.Dw1Ideal.Fold

end
-- ==== Proof.Dw1Ref.lean ====
/-
  The value of the reference `ref_dw1`: its one block is the whole array, the contraction over all the tokens times the
  product of the two scales; and the claim that the kernel computes the same array.
-/
module

public import proofs.«01_k».proof.Defs
public import proofs.«01_k».proof.Proof.Dw1Kernel
public import proofs.«01_k».proof.Proof.Gen.Dw1RefIdeal.Value

@[expose] public section

noncomputable section

open Idealize.ShloMosaic Idealize.ShloMosaic.TcCoe Idealize.SL.Sem
open Idealize.ShloMosaic.Pipeline (Dat)

namespace Cert.Dw1RefIdeal.Whole

open Cert.Dw1RefIdeal Cert.Dw1RefIdeal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

/-- What the body leaves in the result block: its formula of the four arguments. -/
theorem out_A (c : Dev nD) (a0 : Memref sig .tc .smem S1 .f32) (h0 : a0.IsWhole) (a1 : Memref sig .tc .smem S1 .f32) (h1 : a1.IsWhole) (a2 : Memref sig .tc .vmem S16384x2048 .fp8e4m3) (h2 : a2.IsWhole) (a3 : Memref sig .tc .vmem S16384x11264 .fp8e5m2) (h3 : a3.IsWhole) (a4 : Memref sig .tc .vmem S2048x11264 .bf16) (h4 : a4.IsWhole)
    (x0 : Vec F S1 .f32) (x1 : Vec F S1 .f32) (x2 : Vec F S16384x2048 .fp8e4m3) (x3 : Vec F S16384x11264 .fp8e5m2) :
    out0_A_4 c a0 h0 a1 h1 a2 h2 a3 h3 a4 h4 x0 x1 x2 x3 = k0_pay1 x2 x3 (x0 (ix1 0)) (x1 (ix1 0)) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S16384x2048) hz, View.ld_unit_zero (S := S16384x11264) hz, View.ld_unit_zero (S := S1) hz1]
  exact congrArg₂ (fun j j' => k0_pay1 x2 x3 (x0 j) (x1 j')) (idx1_eq _ _) (idx1_eq _ _)

end Cases

section Value
variable (m : (ℓ : Loc nD τ sig) → Buf (Elt Ideal) ℓ) (ρ : Dev nD → PrngReg)

/-- The one grid point. -/
abbrev t0 : Fin cfg0.N := ⟨0, by decide⟩

theorem idx0 : (∀ a, win0_2.index t0 a = 0) ∧ (∀ a, win0_3.index t0 a = 0) ∧ (∀ a, win0_4.index t0 a = 0) := by decide

/-- The operands and the two scales as the region finds them. -/
abbrev L (c : Dev nD) : S16384x2048.Idx → EReal := V m c main_v2
abbrev R (c : Dev nD) : S16384x11264.Idx → EReal := V m c main_arg3
abbrev s0 (c : Dev nD) : S1.Idx → EReal := V m c main_v0
abbrev s1 (c : Dev nD) : S1.Idx → EReal := V m c main_v1

/-- THE RESULT: the contraction over all the tokens times the product of the scales. -/
def result (c : Dev nD) : S2048x11264.Idx → EReal := fun i =>
  (∑ r : Fin 16384, L m c (ix2 r (i 0)) * R m c (ix2 r (i 1))) * (s0 m c (ix1 0) * s1 m c (ix1 0))

theorem iblk0_apply (c : Dev nD) : (iblk m c 0 t0 : S1.Idx → EReal) (ix1 0) = (V m c main_v0 : S1.Idx → EReal) (ix1 0) := by
  show V m c main_v0 _ = V m c main_v0 _
  exact congrArg (V m c main_v0 : S1.Idx → EReal) (idx1_eq _ _)
theorem iblk1_apply (c : Dev nD) : (iblk m c 1 t0 : S1.Idx → EReal) (ix1 0) = (V m c main_v1 : S1.Idx → EReal) (ix1 0) := by
  show V m c main_v1 _ = V m c main_v1 _
  exact congrArg (V m c main_v1 : S1.Idx → EReal) (idx1_eq _ _)
theorem iblk2_eq (c : Dev nD) : (iblk m c 2 t0 : S16384x2048.Idx → EReal) = V m c main_v2 := by
  funext j
  show V m c main_v2 _ = V m c main_v2 _
  congr 1
  funext a
  apply Fin.ext
  match a with
  | ⟨0, _⟩ => show win0_2.index t0 0 * 16384 + 1 * (j 0).val = (j 0).val; rw [idx0.1]; omega
  | ⟨1, _⟩ => show win0_2.index t0 1 * 2048 + 1 * (j 1).val = (j 1).val; rw [idx0.1]; omega
theorem iblk3_eq (c : Dev nD) : (iblk m c 3 t0 : S16384x11264.Idx → EReal) = V m c main_arg3 := by
  funext j
  show V m c main_arg3 _ = V m c main_arg3 _
  congr 1
  funext a
  apply Fin.ext
  match a with
  | ⟨0, _⟩ => show win0_3.index t0 0 * 16384 + 1 * (j 0).val = (j 0).val; rw [idx0.2.1]; omega
  | ⟨1, _⟩ => show win0_3.index t0 1 * 11264 + 1 * (j 1).val = (j 1).val; rw [idx0.2.1]; omega

/-- Reading the result array through its one block is reading it. -/
theorem read_blk (f : S2048x11264.Idx → EReal) (i : S2048x11264.Idx) :
    ((cfg0.win 4).blk t0).view.read (Elt Ideal) f i = f i := by
  show f _ = f _
  congr 1
  funext a
  apply Fin.ext
  match a with
  | ⟨0, _⟩ => show win0_4.index t0 0 * 2048 + 1 * (i 0).val = (i 0).val; rw [idx0.2.2]; omega
  | ⟨1, _⟩ => show win0_4.index t0 1 * 11264 + 1 * (i 1).val = (i 1).val; rw [idx0.2.2]; omega

/-- What the result array ends holding. -/
theorem final (c : Dev nD) : (dats m 0 c).arrAt 4 cfg0.N = result m c := by
  funext i
  have h := congrFun (Value.blocks4 m c t0 (by decide)) i
  rw [Value.flushed4_A, out_A, iblk0_apply, iblk1_apply, iblk2_eq, iblk3_eq] at h
  rw [← read_blk ((dats m 0 c).arrAt 4 cfg0.N) i]
  refine h.trans ?_
  show k0_pay1 (F := Ideal) _ _ _ _ i = _
  unfold result
  idx_vars i
  pointwise [k0_pay1]

/-- The run, read: the result array at the result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Value

end Cert.Dw1RefIdeal.Whole

namespace Cert

/-- The two results are one array when the arguments agree. -/
theorem dw1_eq (m : (ℓ : Loc Dw1Ideal.nD Dw1Ideal.τ Dw1Ideal.sig) → Buf (Elt Ideal) ℓ)
    (m' : (ℓ : Loc Dw1RefIdeal.nD Dw1RefIdeal.τ Dw1RefIdeal.sig) → Buf (Elt Ideal) ℓ) (c : Dev Dw1Ideal.nD)
    (h : m' ((c.tc : Thread Dw1RefIdeal.nD Dw1RefIdeal.τ).loc Dw1RefIdeal.main_arg0) = m ((c.tc : Thread Dw1Ideal.nD Dw1Ideal.τ).loc Dw1Ideal.main_arg0)
      ∧ m' ((c.tc : Thread Dw1RefIdeal.nD Dw1RefIdeal.τ).loc Dw1RefIdeal.main_arg1) = m ((c.tc : Thread Dw1Ideal.nD Dw1Ideal.τ).loc Dw1Ideal.main_arg1)
      ∧ m' ((c.tc : Thread Dw1RefIdeal.nD Dw1RefIdeal.τ).loc Dw1RefIdeal.main_arg2) = m ((c.tc : Thread Dw1Ideal.nD Dw1Ideal.τ).loc Dw1Ideal.main_arg2)
      ∧ m' ((c.tc : Thread Dw1RefIdeal.nD Dw1RefIdeal.τ).loc Dw1RefIdeal.main_arg3) = m ((c.tc : Thread Dw1Ideal.nD Dw1Ideal.τ).loc Dw1Ideal.main_arg3)) :
    Dw1RefIdeal.Whole.result m' c = Dw1Ideal.Value.G3 m c := by
  rw [Dw1Ideal.Fold.G3_eq]
  have hL : Dw1RefIdeal.Whole.L m' c = Dw1Ideal.Fold.L m c := by
    unfold Dw1RefIdeal.Whole.L Dw1Ideal.Fold.L
    entry_read
    rw [h.2.2.1]
    rfl
  have hR : Dw1RefIdeal.Whole.R m' c = Dw1Ideal.Fold.R m c := by
    unfold Dw1RefIdeal.Whole.R Dw1Ideal.Fold.R
    entry_read
    rw [h.2.2.2]
  have hs0 : Dw1RefIdeal.Whole.s0 m' c = broadcastInDim Dw1RefIdeal.S1 ![] Dw1RefIdeal.Gen.bcast_S_S1 (m ((c.tc : Thread Dw1Ideal.nD Dw1Ideal.τ).loc Dw1Ideal.main_arg0)) := by
    unfold Dw1RefIdeal.Whole.s0
    entry_read
    rw [h.1]
  have hs1 : Dw1RefIdeal.Whole.s1 m' c = broadcastInDim Dw1RefIdeal.S1 ![] Dw1RefIdeal.Gen.bcast_S_S1 (m ((c.tc : Thread Dw1Ideal.nD Dw1Ideal.τ).loc Dw1Ideal.main_arg1)) := by
    unfold Dw1RefIdeal.Whole.s1
    entry_read
    rw [h.2.1]
  have hs : Dw1RefIdeal.Whole.s0 m' c (ix1 0) * Dw1RefIdeal.Whole.s1 m' c (ix1 0) = (Dw1Ideal.Gen.V m c Dw1Ideal.main_v1 : Dw1Ideal.S1.Idx → EReal) (ix1 0) := by
    rw [hs0, hs1]
    entry_read
    pointwise
    try rfl
  funext i
  unfold Dw1RefIdeal.Whole.result Dw1Ideal.Fold.result
  rw [hL, hR, hs]

/-- The weight-gradient kernel for `W1` and the reference end with the same array. -/
theorem algebraic_dw1 : algebraic_Dw1Ideal_Dw1RefIdeal (hDw1Ideal := Dw1Ideal.Gen.facts) (hDw1RefIdeal := Dw1RefIdeal.Gen.facts) := by
  intro m g m' g' _ hagree
  exact ⟨fun c => Dw1Ideal.Value.G3 m c, Dw1Ideal.Value.run m g,
    (θ_run _ _ _).mono (fun r h c => ⟨(h c).1.trans (dw1_eq m m' c (hagree c)), (h c).2⟩) (Dw1RefIdeal.Whole.run m' g')⟩

end Cert

end
-- ==== Proof.Dw2Kernel.lean ====
/-
  The value of the weight-gradient kernel `dw2`: the array it leaves holds, at row `i` and column `j`, the whole
  contraction over the 16384 tokens times the scale.
-/
module

public import proofs.«01_k».proof.Proof.Sums
public import proofs.«01_k».proof.Proof.Gen.Dw2Ideal.Value
public import Idealize.ShloMosaic.Lib.Pipeline.Value
public import Idealize.ShloMosaic.Lib.Pointwise
public import Idealize.ShloMosaic.Lib.Tactic
public import Idealize.ShloMosaic.Lib.Claim

@[expose] public section

noncomputable section

open Idealize.ShloMosaic Idealize.ShloMosaic.TcCoe Idealize.SL.Sem
open Idealize.ShloMosaic.Pipeline (Dat)

namespace Cert.Dw2Ideal.Fold

open Cert.Dw2Ideal Cert.Dw2Ideal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

/-- At the first block of a contraction the accumulator ends holding the zero block plus the product of the blocks. -/
theorem sout_A (c : Dev nD) (i : grid0.Coords) (a3 : Memref sig .tc .smem S1 .f32) (h3 : a3.IsWhole) (a4 : Memref sig .tc .vmem S2048x1408 .fp8e4m3) (h4 : a4.IsWhole) (a5 : Memref sig .tc .vmem S2048x2048 .fp8e5m2) (h5 : a5.IsWhole) (a6 : Memref sig .tc .vmem S1408x2048 .bf16) (h6 : a6.IsWhole) (a7 : Memref sig .tc .vmem S1408x2048 .f32) (h7 : a7.IsWhole) (hc0 : cond0_0 i) (hc1 : ¬cond0_1 i)
    (x0 : Vec F S1 .f32) (x1 : Vec F S2048x1408 .fp8e4m3) (x2 : Vec F S2048x2048 .fp8e5m2) :
    sout0_A_0 c i a3 h3 a4 h4 a5 h5 a6 h6 a7 h7 hc0 hc1 x0 x1 x2 = k0_pay2 k0_pay1 x1 x2 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1408x2048) hz, View.readCov_unit_zero (S := S1408x2048) _ hz]
  simp only [View.readAt_eq_ld, h4.read_unread, h5.read_unread, View.ld_unit_zero (S := S1408x2048) hz, View.ld_unit_zero (S := S2048x2048) hz, View.ld_unit_zero (S := S2048x1408) hz]

/-- At a later block it ends holding what it held plus the product of the blocks. -/
theorem sout_B (c : Dev nD) (i : grid0.Coords) (a3 : Memref sig .tc .smem S1 .f32) (h3 : a3.IsWhole) (a4 : Memref sig .tc .vmem S2048x1408 .fp8e4m3) (h4 : a4.IsWhole) (a5 : Memref sig .tc .vmem S2048x2048 .fp8e5m2) (h5 : a5.IsWhole) (a6 : Memref sig .tc .vmem S1408x2048 .bf16) (h6 : a6.IsWhole) (a7 : Memref sig .tc .vmem S1408x2048 .f32) (h7 : a7.IsWhole) (hc0 : ¬cond0_0 i) (hc1 : ¬cond0_1 i)
    (x0 : Vec F S1 .f32) (x1 : Vec F S2048x1408 .fp8e4m3) (x2 : Vec F S2048x2048 .fp8e5m2) (xs : Vec F S1408x2048 .f32) :
    sout0_B_0 c i a3 h3 a4 h4 a5 h5 a6 h6 a7 h7 hc0 hc1 x0 x1 x2 xs = k0_pay2 xs x1 x2 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h4.read_unread, h5.read_unread, h7.read_unread, View.ld_unit_zero (S := S1408x2048) hz, View.ld_unit_zero (S := S2048x2048) hz, View.ld_unit_zero (S := S2048x1408) hz]

/-- At the last block likewise. -/
theorem sout_C (c : Dev nD) (i : grid0.Coords) (a3 : Memref sig .tc .smem S1 .f32) (h3 : a3.IsWhole) (a4 : Memref sig .tc .vmem S2048x1408 .fp8e4m3) (h4 : a4.IsWhole) (a5 : Memref sig .tc .vmem S2048x2048 .fp8e5m2) (h5 : a5.IsWhole) (a6 : Memref sig .tc .vmem S1408x2048 .bf16) (h6 : a6.IsWhole) (a7 : Memref sig .tc .vmem S1408x2048 .f32) (h7 : a7.IsWhole) (hc0 : ¬cond0_0 i) (hc1 : cond0_1 i)
    (x0 : Vec F S1 .f32) (x1 : Vec F S2048x1408 .fp8e4m3) (x2 : Vec F S2048x2048 .fp8e5m2) (xs : Vec F S1408x2048 .f32) :
    sout0_C_0 c i a3 h3 a4 h4 a5 h5 a6 h6 a7 h7 hc0 hc1 x0 x1 x2 xs = k0_pay2 xs x1 x2 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h4.read_unread, h5.read_unread, h7.read_unread, View.ld_unit_zero (S := S1408x2048) hz, View.ld_unit_zero (S := S2048x2048) hz, View.ld_unit_zero (S := S2048x1408) hz]

/-- At the last block the result block is the accumulator's new contents, scaled and rounded. -/
theorem out_C (c : Dev nD) (i : grid0.Coords) (a3 : Memref sig .tc .smem S1 .f32) (h3 : a3.IsWhole) (a4 : Memref sig .tc .vmem S2048x1408 .fp8e4m3) (h4 : a4.IsWhole) (a5 : Memref sig .tc .vmem S2048x2048 .fp8e5m2) (h5 : a5.IsWhole) (a6 : Memref sig .tc .vmem S1408x2048 .bf16) (h6 : a6.IsWhole) (a7 : Memref sig .tc .vmem S1408x2048 .f32) (h7 : a7.IsWhole) (hc0 : ¬cond0_0 i) (hc1 : cond0_1 i)
    (x0 : Vec F S1 .f32) (x1 : Vec F S2048x1408 .fp8e4m3) (x2 : Vec F S2048x2048 .fp8e5m2) (xs : Vec F S1408x2048 .f32) :
    out0_C_3 c i a3 h3 a4 h4 a5 h5 a6 h6 a7 h7 hc0 hc1 x0 x1 x2 xs = k0_pay3 (k0_pay2 xs x1 x2) (x0 (ix1 0)) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1408x2048) _ hz]
  simp only [View.readAt_eq_ld, h3.read_unread, h4.read_unread, h5.read_unread, h7.read_unread, View.ld_unit_zero (S := S1408x2048) hz, View.ld_unit_zero (S := S2048x2048) hz, View.ld_unit_zero (S := S2048x1408) hz]
  rw [View.ld_unit_zero (S := S1) hz1]
  exact congrArg (fun j => k0_pay3 (k0_pay2 xs x1 x2) (x0 j)) (idx1_eq _ _)

end Cases

section Value
variable (m : (ℓ : Loc nD τ sig) → Buf (Elt Ideal) ℓ) (ρ : Dev nD → PrngReg)

/-- The left operand as the region finds it: the tokens' rows, flattened. -/
abbrev L (c : Dev nD) : S16384x5632.Idx → EReal := V m c main_v2
/-- The right operand as the region finds it. -/
abbrev R (c : Dev nD) : S16384x2048.Idx → EReal := V m c main_arg3

/-- Which blocks of the operands a grid point reads: the contraction's block `t % 8`, the result rows' block `t / 8`. -/
theorem idx_in : ∀ t : Fin cfg0.N, win0_1.index t (0 : Fin 2) = t.val % 8 ∧ win0_1.index t (1 : Fin 2) = t.val / 8
    ∧ win0_2.index t (0 : Fin 2) = t.val % 8 ∧ win0_2.index t (1 : Fin 2) = 0 :=
  (by decide +kernel : ∀ t : Fin grid0.N, _)

/-- The left block read at an index. -/
theorem iblk1_apply (c : Dev nD) (t : Fin cfg0.N) (r : Fin 2048) (j : Fin 1408) :
    (iblk m c 1 t : S2048x1408.Idx → EReal) (ix2 r j)
      = L m c (ix2 (Fin.ofNat 16384 (2048 * (t.val % 8) + r.val)) (Fin.ofNat 5632 (1408 * (t.val / 8) + j.val))) := by
  obtain ⟨e0, e1, -, -⟩ := idx_in t
  have hr := r.isLt
  have hj := j.isLt
  have hm := Nat.mod_lt t.val (show 0 < 8 by decide)
  have hN : t.val < 32 := lt_of_lt_of_eq t.isLt N_0
  show V m c main_v2 _ = V m c main_v2 _
  congr 1
  funext a
  apply Fin.ext
  match a with
  | ⟨0, _⟩ => show win0_1.index t 0 * 2048 + 1 * r.val = (2048 * (t.val % 8) + r.val) % 16384; rw [e0]; omega
  | ⟨1, _⟩ => show win0_1.index t 1 * 1408 + 1 * j.val = (1408 * (t.val / 8) + j.val) % 5632; rw [e1]; omega

/-- The right block read at an index. -/
theorem iblk2_apply (c : Dev nD) (t : Fin cfg0.N) (r : Fin 2048) (j : Fin 2048) :
    (iblk m c 2 t : S2048x2048.Idx → EReal) (ix2 r j)
      = R m c (ix2 (Fin.ofNat 16384 (2048 * (t.val % 8) + r.val)) j) := by
  obtain ⟨-, -, e0, e1⟩ := idx_in t
  have hr := r.isLt
  have hj := j.isLt
  have hm := Nat.mod_lt t.val (show 0 < 8 by decide)
  have hN : t.val < 32 := lt_of_lt_of_eq t.isLt N_0
  show V m c main_arg3 _ = V m c main_arg3 _
  congr 1
  funext a
  apply Fin.ext
  match a with
  | ⟨0, _⟩ => show win0_2.index t 0 * 2048 + 1 * r.val = (2048 * (t.val % 8) + r.val) % 16384; rw [e0]; omega
  | ⟨1, _⟩ => show win0_2.index t 1 * 2048 + 1 * j.val = j.val; rw [e1]; omega

/-- Term `r` of the contraction over the tokens, for row `i` of the result's block `q` and column `j`. -/
abbrev term (c : Dev nD) (q : ℕ) (i : Fin 1408) (j : Fin 2048) (r : ℕ) : EReal :=
  L m c (ix2 (Fin.ofNat 16384 r) (Fin.ofNat 5632 (1408 * q + i.val))) * R m c (ix2 (Fin.ofNat 16384 r) j)

/-- The product of a point's two blocks, at an index: its 2048 terms of the contraction. -/
theorem step_apply (c : Dev nD) (t : Fin cfg0.N) (xs : S1408x2048.Idx → EReal) (i : Fin 1408) (j : Fin 2048) :
    k0_pay2 (F := Ideal) xs (iblk m c 1 t) (iblk m c 2 t) (ix2 i j)
      = xs (ix2 i j) + ∑ r ∈ Finset.range 2048, term m c (t.val / 8) i j (2048 * (t.val % 8) + r) := by
  rw [← Sums.sum_fin]
  have e : ∀ (x1 : S2048x1408.Idx → EReal) (x2 : S2048x2048.Idx → EReal),
      k0_pay2 (F := Ideal) xs x1 x2 (ix2 i j) = xs (ix2 i j) + ∑ r : Fin 2048, x1 (ix2 r i) * x2 (ix2 r j) := by
    intro x1 x2
    pointwise [k0_pay2]
  rw [e]
  refine congrArg (xs (ix2 i j) + ·) (Finset.sum_congr rfl fun r _ => ?_)
  rw [iblk1_apply, iblk2_apply]

/-- After the point `n` the accumulator holds the terms of the blocks `0 … n % 8` of the contraction. -/
theorem acc_apply (c : Dev nD) : ∀ (n : ℕ) (h : n < cfg0.N) (i : Fin 1408) (j : Fin 2048),
    (outsAt0 m c n h).2 (ix2 i j) = ∑ r ∈ Finset.range (2048 * (n % 8 + 1)), term m c (n / 8) i j r := by
  intro n
  induction n with
  | zero =>
    intro h i j
    rw [outsAt0_A m c ⟨0, h⟩ (by rfl) (by dsimp only; omega)]
    dsimp only
    rw [sout_A, step_apply]
    have z : (k0_pay1 (F := Ideal)) (ix2 i j) = 0 := by pointwise [k0_pay1]
    rw [z, zero_add]
    simp
  | succ n ih =>
    intro h i j
    have hN : n + 1 < 32 := lt_of_lt_of_eq h N_0
    have key : ∀ xs : S1408x2048.Idx → EReal, ¬(n + 1) % 8 = 0 → xs = (outsAt0 m c n (Nat.lt_of_succ_lt h)).2 →
        k0_pay2 (F := Ideal) xs (iblk m c 1 ⟨n + 1, h⟩) (iblk m c 2 ⟨n + 1, h⟩) (ix2 i j)
          = ∑ r ∈ Finset.range (2048 * ((n + 1) % 8 + 1)), term m c ((n + 1) / 8) i j r := by
      intro xs h0 hxs
      rw [step_apply, hxs, ih, Nat.mul_succ 2048 ((n + 1) % 8), Finset.sum_range_add]
      dsimp only
      rw [show n / 8 = (n + 1) / 8 by omega, show n % 8 + 1 = (n + 1) % 8 by omega]
    by_cases h0 : (n + 1) % 8 = 0
    · rw [outsAt0_A m c ⟨n + 1, h⟩ h0 (by dsimp only; omega)]
      dsimp only
      rw [sout_A, step_apply]
      have z : (k0_pay1 (F := Ideal)) (ix2 i j) = 0 := by pointwise [k0_pay1]
      rw [z, zero_add]
      dsimp only
      rw [h0]
      simp
    · by_cases h1 : (n + 1) % 8 = 7
      · rw [outsAt0_C m c ⟨n + 1, h⟩ h0 h1]
        dsimp only
        rw [sout_C]
        exact key _ h0 rfl
      · rw [outsAt0_B m c ⟨n + 1, h⟩ h0 h1]
        dsimp only
        rw [sout_B]
        exact key _ h0 rfl

/-- THE RESULT: the contraction over all the tokens, times the scale the program computes before the kernel. -/
def result (c : Dev nD) : S5632x2048.Idx → EReal := fun i =>
  (∑ r : Fin 16384, L m c (ix2 r (i 0)) * R m c (ix2 r (i 1))) * (V m c main_v1 : S1.Idx → EReal) (ix1 0)

/-- The scale's block is the scale. -/
theorem iblk0_apply (c : Dev nD) (t : Fin cfg0.N) : (iblk m c 0 t : S1.Idx → EReal) (ix1 0) = (V m c main_v1 : S1.Idx → EReal) (ix1 0) := by
  show V m c main_v1 _ = V m c main_v1 _
  exact congrArg (V m c main_v1 : S1.Idx → EReal) (idx1_eq _ _)

/-- What the array ends holding is the result, index by index. -/
theorem G3_eq (c : Dev nD) : Value.G3 m c = result m c := by
  funext i
  have hi0 : (i 0).val < 5632 := (i 0).isLt
  have hi1 : (i 1).val < 2048 := (i 1).isLt
  have hp : Value.pt3Of i = 8 * ((i 0).val / 1408) + 7 := by
    unfold Value.pt3Of Value.run3Of; omega
  have hlt : Value.pt3Of i < cfg0.N := lt_of_lt_of_eq (by omega) N_0.symm
  unfold Value.G3
  rw [dif_pos hlt]
  have e := Value.outsAt0_sweep m c (Value.pt3Of i) hlt
  have hloc : Value.loc3Of i = ix2 (Fin.ofNat 1408 (i 0).val) (Fin.ofNat 2048 (i 1).val) := by
    funext a; match a with
    | ⟨0, _⟩ => rfl
    | ⟨1, _⟩ => rfl
  rw [← e, hloc]
  have hacc := acc_apply m c (Value.pt3Of i) hlt (Fin.ofNat 1408 (i 0).val) (Fin.ofNat 2048 (i 1).val)
  rw [outsAt0_C m c ⟨Value.pt3Of i, hlt⟩ (by dsimp only; omega) (by dsimp only; omega)] at hacc ⊢
  dsimp only at hacc ⊢
  rw [sout_C] at hacc
  rw [out_C]
  have pay : ∀ (x : S1408x2048.Idx → EReal) (y : EReal) j, k0_pay3 (F := Ideal) x y j = x j * y := by
    intro x y j; pointwise [k0_pay3]
  rw [pay, hacc, iblk0_apply]
  unfold result
  refine congrArg (· * _) ?_
  rw [show 2048 * (Value.pt3Of i % 8 + 1) = 16384 by omega, ← Sums.sum_fin]
  refine Finset.sum_congr rfl fun r _ => ?_
  have hr := r.isLt
  unfold term
  congr 2
  · funext a; apply Fin.ext
    match a with
    | ⟨0, _⟩ => show r.val % 16384 = r.val; omega
    | ⟨1, _⟩ => show (1408 * (Value.pt3Of i / 8) + (i 0).val % 1408) % 5632 = (i 0).val; omega
  · funext a; apply Fin.ext
    match a with
    | ⟨0, _⟩ => show r.val % 16384 = r.val; omega
    | ⟨1, _⟩ => show (i 1).val % 2048 = (i 1).val; omega

end Value

end Cert.Dw2Ideal.Fold

end
-- ==== Proof.Dw2Ref.lean ====
/-
  The value of the reference `ref_dw2`: its one block is the whole array, the contraction over all the tokens times the
  product of the two scales; and the claim that the kernel computes the same array.
-/
module

public import proofs.«01_k».proof.Defs
public import proofs.«01_k».proof.Proof.Dw2Kernel
public import proofs.«01_k».proof.Proof.Gen.Dw2RefIdeal.Value

@[expose] public section

noncomputable section

open Idealize.ShloMosaic Idealize.ShloMosaic.TcCoe Idealize.SL.Sem
open Idealize.ShloMosaic.Pipeline (Dat)

namespace Cert.Dw2RefIdeal.Whole

open Cert.Dw2RefIdeal Cert.Dw2RefIdeal.Gen

section Cases
variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (j j' : S1.Idx) : j = j' := funext fun a => Fin.ext (by
  match a with
  | ⟨0, _⟩ =>
    have h : (j 0).val < 1 := (j 0).isLt
    have h' : (j' 0).val < 1 := (j' 0).isLt
    show (j 0).val = (j' 0).val
    omega)

/-- What the body leaves in the result block: its formula of the four arguments. -/
theorem out_A (c : Dev nD) (a0 : Memref sig .tc .smem S1 .f32) (h0 : a0.IsWhole) (a1 : Memref sig .tc .smem S1 .f32) (h1 : a1.IsWhole) (a2 : Memref sig .tc .vmem S16384x5632 .fp8e4m3) (h2 : a2.IsWhole) (a3 : Memref sig .tc .vmem S16384x2048 .fp8e5m2) (h3 : a3.IsWhole) (a4 : Memref sig .tc .vmem S5632x2048 .bf16) (h4 : a4.IsWhole)
    (x0 : Vec F S1 .f32) (x1 : Vec F S1 .f32) (x2 : Vec F S16384x5632 .fp8e4m3) (x3 : Vec F S16384x2048 .fp8e5m2) :
    out0_A_4 c a0 h0 a1 h1 a2 h2 a3 h3 a4 h4 x0 x1 x2 x3 = k0_pay1 x2 x3 (x0 (ix1 0)) (x1 (ix1 0)) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S16384x5632) hz, View.ld_unit_zero (S := S16384x2048) hz, View.ld_unit_zero (S := S1) hz1]
  exact congrArg₂ (fun j j' => k0_pay1 x2 x3 (x0 j) (x1 j')) (idx1_eq _ _) (idx1_eq _ _)

end Cases

section Value
variable (m : (ℓ : Loc nD τ sig) → Buf (Elt Ideal) ℓ) (ρ : Dev nD → PrngReg)

/-- The one grid point. -/
abbrev t0 : Fin cfg0.N := ⟨0, by decide⟩

theorem idx0 : (∀ a, win0_2.index t0 a = 0) ∧ (∀ a, win0_3.index t0 a = 0) ∧ (∀ a, win0_4.index t0 a = 0) := by decide

/-- The operands and the two scales as the region finds them. -/
abbrev L (c : Dev nD) : S16384x5632.Idx → EReal := V m c main_v2
abbrev R (c : Dev nD) : S16384x2048.Idx → EReal := V m c main_arg3
abbrev s0 (c : Dev nD) : S1.Idx → EReal := V m c main_v0
abbrev s1 (c : Dev nD) : S1.Idx → EReal := V m c main_v1

/-- THE RESULT: the contraction over all the tokens times the product of the scales. -/
def result (c : Dev nD) : S5632x2048.Idx → EReal := fun i =>
  (∑ r : Fin 16384, L m c (ix2 r (i 0)) * R m c (ix2 r (i 1))) * (s0 m c (ix1 0) * s1 m c (ix1 0))

theorem iblk0_apply (c : Dev nD) : (iblk m c 0 t0 : S1.Idx → EReal) (ix1 0) = (V m c main_v0 : S1.Idx → EReal) (ix1 0) := by
  show V m c main_v0 _ = V m c main_v0 _
  exact congrArg (V m c main_v0 : S1.Idx → EReal) (idx1_eq _ _)
theorem iblk1_apply (c : Dev nD) : (iblk m c 1 t0 : S1.Idx → EReal) (ix1 0) = (V m c main_v1 : S1.Idx → EReal) (ix1 0) := by
  show V m c main_v1 _ = V m c main_v1 _
  exact congrArg (V m c main_v1 : S1.Idx → EReal) (idx1_eq _ _)
theorem iblk2_eq (c : Dev nD) : (iblk m c 2 t0 : S16384x5632.Idx → EReal) = V m c main_v2 := by
  funext j
  show V m c main_v2 _ = V m c main_v2 _
  congr 1
  funext a
  apply Fin.ext
  match a with
  | ⟨0, _⟩ => show win0_2.index t0 0 * 16384 + 1 * (j 0).val = (j 0).val; rw [idx0.1]; omega
  | ⟨1, _⟩ => show win0_2.index t0 1 * 5632 + 1 * (j 1).val = (j 1).val; rw [idx0.1]; omega
theorem iblk3_eq (c : Dev nD) : (iblk m c 3 t0 : S16384x2048.Idx → EReal) = V m c main_arg3 := by
  funext j
  show V m c main_arg3 _ = V m c main_arg3 _
  congr 1
  funext a
  apply Fin.ext
  match a with
  | ⟨0, _⟩ => show win0_3.index t0 0 * 16384 + 1 * (j 0).val = (j 0).val; rw [idx0.2.1]; omega
  | ⟨1, _⟩ => show win0_3.index t0 1 * 2048 + 1 * (j 1).val = (j 1).val; rw [idx0.2.1]; omega

/-- Reading the result array through its one block is reading it. -/
theorem read_blk (f : S5632x2048.Idx → EReal) (i : S5632x2048.Idx) :
    ((cfg0.win 4).blk t0).view.read (Elt Ideal) f i = f i := by
  show f _ = f _
  congr 1
  funext a
  apply Fin.ext
  match a with
  | ⟨0, _⟩ => show win0_4.index t0 0 * 5632 + 1 * (i 0).val = (i 0).val; rw [idx0.2.2]; omega
  | ⟨1, _⟩ => show win0_4.index t0 1 * 2048 + 1 * (i 1).val = (i 1).val; rw [idx0.2.2]; omega

/-- What the result array ends holding. -/
theorem final (c : Dev nD) : (dats m 0 c).arrAt 4 cfg0.N = result m c := by
  funext i
  have h := congrFun (Value.blocks4 m c t0 (by decide)) i
  rw [Value.flushed4_A, out_A, iblk0_apply, iblk1_apply, iblk2_eq, iblk3_eq] at h
  rw [← read_blk ((dats m 0 c).arrAt 4 cfg0.N) i]
  refine h.trans ?_
  show k0_pay1 (F := Ideal) _ _ _ _ i = _
  unfold result
  idx_vars i
  pointwise [k0_pay1]

/-- The run, read: the result array at the result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Value

end Cert.Dw2RefIdeal.Whole

namespace Cert

/-- The two results are one array when the arguments agree. -/
theorem dw2_eq (m : (ℓ : Loc Dw2Ideal.nD Dw2Ideal.τ Dw2Ideal.sig) → Buf (Elt Ideal) ℓ)
    (m' : (ℓ : Loc Dw2RefIdeal.nD Dw2RefIdeal.τ Dw2RefIdeal.sig) → Buf (Elt Ideal) ℓ) (c : Dev Dw2Ideal.nD)
    (h : m' ((c.tc : Thread Dw2RefIdeal.nD Dw2RefIdeal.τ).loc Dw2RefIdeal.main_arg0) = m ((c.tc : Thread Dw2Ideal.nD Dw2Ideal.τ).loc Dw2Ideal.main_arg0)
      ∧ m' ((c.tc : Thread Dw2RefIdeal.nD Dw2RefIdeal.τ).loc Dw2RefIdeal.main_arg1) = m ((c.tc : Thread Dw2Ideal.nD Dw2Ideal.τ).loc Dw2Ideal.main_arg1)
      ∧ m' ((c.tc : Thread Dw2RefIdeal.nD Dw2RefIdeal.τ).loc Dw2RefIdeal.main_arg2) = m ((c.tc : Thread Dw2Ideal.nD Dw2Ideal.τ).loc Dw2Ideal.main_arg2)
      ∧ m' ((c.tc : Thread Dw2RefIdeal.nD Dw2RefIdeal.τ).loc Dw2RefIdeal.main_arg3) = m ((c.tc : Thread Dw2Ideal.nD Dw2Ideal.τ).loc Dw2Ideal.main_arg3)) :
    Dw2RefIdeal.Whole.result m' c = Dw2Ideal.Value.G3 m c := by
  rw [Dw2Ideal.Fold.G3_eq]
  have hL : Dw2RefIdeal.Whole.L m' c = Dw2Ideal.Fold.L m c := by
    unfold Dw2RefIdeal.Whole.L Dw2Ideal.Fold.L
    entry_read
    rw [h.2.2.1]
    rfl
  have hR : Dw2RefIdeal.Whole.R m' c = Dw2Ideal.Fold.R m c := by
    unfold Dw2RefIdeal.Whole.R Dw2Ideal.Fold.R
    entry_read
    rw [h.2.2.2]
  have hs0 : Dw2RefIdeal.Whole.s0 m' c = broadcastInDim Dw2RefIdeal.S1 ![] Dw2RefIdeal.Gen.bcast_S_S1 (m ((c.tc : Thread Dw2Ideal.nD Dw2Ideal.τ).loc Dw2Ideal.main_arg0)) := by
    unfold Dw2RefIdeal.Whole.s0
    entry_read
    rw [h.1]
  have hs1 : Dw2RefIdeal.Whole.s1 m' c = broadcastInDim Dw2RefIdeal.S1 ![] Dw2RefIdeal.Gen.bcast_S_S1 (m ((c.tc : Thread Dw2Ideal.nD Dw2Ideal.τ).loc Dw2Ideal.main_arg1)) := by
    unfold Dw2RefIdeal.Whole.s1
    entry_read
    rw [h.2.1]
  have hs : Dw2RefIdeal.Whole.s0 m' c (ix1 0) * Dw2RefIdeal.Whole.s1 m' c (ix1 0) = (Dw2Ideal.Gen.V m c Dw2Ideal.main_v1 : Dw2Ideal.S1.Idx → EReal) (ix1 0) := by
    rw [hs0, hs1]
    entry_read
    pointwise
    try rfl
  funext i
  unfold Dw2RefIdeal.Whole.result Dw2Ideal.Fold.result
  rw [hL, hR, hs]

/-- The weight-gradient kernel for `W2` and the reference end with the same array. -/
theorem algebraic_dw2 : algebraic_Dw2Ideal_Dw2RefIdeal (hDw2Ideal := Dw2Ideal.Gen.facts) (hDw2RefIdeal := Dw2RefIdeal.Gen.facts) := by
  intro m g m' g' _ hagree
  exact ⟨fun c => Dw2Ideal.Value.G3 m c, Dw2Ideal.Value.run m g,
    (θ_run _ _ _).mono (fun r h c => ⟨(h c).1.trans (dw2_eq m m' c (hagree c)), (h c).2⟩) (Dw2RefIdeal.Whole.run m' g')⟩

end Cert

end
-- ==== Proof.DxRun.lean ====
module

public import proofs.«01_k».proof.Proof.Gen.Dx.Skeleton
public import proofs.«01_k».proof.Proof.Gen.Dx.Frame

@[expose] public section

set_option maxRecDepth 16384

/-!
# `Dx`'s kernel run on any buffers

The kernel's grid has 64 × 2 points. At a point of the first column the kernel only stores its half of the
quantised blocks; at a point of the second column it stores the other half, then reads the whole block of codes
back and multiplies it. `runA` and `runB` say what the stores leave in the two outputs, as lists of pieces
(the last store first), whatever the block of codes held before (`x6`).
-/

noncomputable section

namespace Cert.Dx.Body

open Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The second grid coordinate is one: the point also multiplies. -/
abbrev last (i : grid0.Coords) : Prop := k0_cond1 i = 1#1

/-- These are the points of odd number. -/
theorem last_iff : ∀ t : Fin cfg0.N, last (grid0.coords t) ↔ t.val % 2 = 1 :=
  (fun t => by
    have ht : t.val < 128 := Nat.lt_of_lt_of_eq t.isLt N_0
    have e1 : (grid0.coords t 1).val = t.val / 1 % 2 := Pipeline.Grid.coords_val t 1 (by decide) rfl
    simp only [last, k0_cond1, e1]
    word_cmp
   : ∀ t : Fin grid0.N, last (grid0.coords t) ↔ t.val % 2 = 1)

set_option maxHeartbeats 4000000 in
/-- What the body stores at a point of the first column. -/
noncomputable def runA (c : Dev nD) (i : grid0.Coords) (arg2 : Memref sig .tc .smem S2 .f32) (harg2 : arg2.IsWhole) (arg3 : Memref sig .tc .vmem S256x2816 .f32) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S2048x11264 .fp8e4m3) (harg6 : arg6.IsWhole) (arg7 : Memref sig .tc .vmem S256x2048 .bf16) (harg7 : arg7.IsWhole) (arg8 : Memref sig .tc .vmem S256x11264 .fp8e5m2) (harg8 : arg8.IsWhole) (hc : ¬last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    { L6 : List (View.Piece (Elt F) S256x11264 .fp8e5m2) //
      ∀ (x5 : Vec F S256x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dx i arg2 harg2 arg3 harg3 arg4 harg4 arg5 harg5 arg6 harg6 arg7 harg7 arg8 harg8) K } := by
  refine ⟨?_, fun x5 E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact H6

set_option maxHeartbeats 4000000 in
/-- What the body stores at a point of the second column. -/
noncomputable def runB (c : Dev nD) (i : grid0.Coords) (arg2 : Memref sig .tc .smem S2 .f32) (harg2 : arg2.IsWhole) (arg3 : Memref sig .tc .vmem S256x2816 .f32) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S2048x11264 .fp8e4m3) (harg6 : arg6.IsWhole) (arg7 : Memref sig .tc .vmem S256x2048 .bf16) (harg7 : arg7.IsWhole) (arg8 : Memref sig .tc .vmem S256x11264 .fp8e5m2) (harg8 : arg8.IsWhole) (hc : last i)
    (x0 : Vec F S2 .f32) (x1 : Vec F S256x2816 .f32) (x2 : Vec F S256x2816 .bf16) (x3 : Vec F S256x2816 .bf16) (x4 : Vec F S2048x11264 .fp8e4m3) (x6 : Vec F S256x11264 .fp8e5m2) :
    Σ' (L5 : List (View.Piece (Elt F) S256x2048 .bf16)), { L6 : List (View.Piece (Elt F) S256x11264 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread x6) L6)) -∗ K ⟨⟩))
          ⊢ wp frame (wpE (defs₀ (F := F)) Variants.none c none) E (cc0_dx i arg2 harg2 arg3 harg3 arg4 harg4 arg5 harg5 arg6 harg6 arg7 harg7 arg8 harg8) K } := by
  refine ⟨?_, ?_, fun E K => ?run⟩
  case run =>
    simp only [cc0_dx_eq_skeleton]; unfold cc0_dx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact H6

end Cert.Dx.Body

end
-- ==== Proof.DxBody.lean ====
module

public import proofs.«01_k».proof.Proof.DxRun
public import Idealize.ShloMosaic.Lib.Pipeline.DatRel
public import Idealize.ShloMosaic.Lib.Pipeline.ArrRel
public import Idealize.ShloMosaic.Lib.Pipeline.FrameBody

@[expose] public section

set_option maxRecDepth 16384

/-!
# The frame of `Dx`

The block of codes is stored in two halves, one at each of two neighbouring points, over contents that nobody
names, so what the first of them leaves is not a function of the arguments. It is held to a predicate `R6`
instead, and so is the block of results `R5`. `sound` runs the body for any two predicates that the stores
establish, and `run_main` runs the whole program for them.
-/

noncomputable section

namespace Cert.Dx.Body

open Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's buffer at a point. -/
abbrev ms0 (t : Fin cfg0.N) : Memref sig .tc .smem S2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2816 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x11264 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x11264 .fp8e5m2 := win0_6.stage (cfg0.slots t 6)
abbrev hs6 (t : Fin cfg0.N) : (ms6 t).IsWhole := hstage0_6 ((cfg0.slots t 6).cast nbuf0_6)

/-- The proof data: the inputs stay in place; what is said here of the two outputs is not used. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Classical.arbitrary _
    | ⟨6, _⟩ => Classical.arbitrary _
  Φ _ := Pipeline.ΦA spec0 c
  q w := Pipeline.shareOf spec0 w
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d

/-- The two outputs are held to predicates. -/
def mask : Fin cfg0.W → Bool := fun
  | ⟨0, _⟩ => false | ⟨1, _⟩ => false | ⟨2, _⟩ => false | ⟨3, _⟩ => false | ⟨4, _⟩ => false
  | ⟨5, _⟩ => true | ⟨6, _⟩ => true

variable (R5 : Fin cfg0.N → Vec F S256x2048 .bf16 → Prop) (R6 : Fin cfg0.N → Vec F S256x11264 .fp8e5m2 → Prop)

/-- The predicates, window by window. -/
def Rl : (w : Fin cfg0.W) → Fin cfg0.N → ((cfg0.win w).block.Idx → Elt F (cfg0.win w).elt) → Prop := fun
  | ⟨0, _⟩ => fun _ _ => True | ⟨1, _⟩ => fun _ _ => True | ⟨2, _⟩ => fun _ _ => True
  | ⟨3, _⟩ => fun _ _ => True | ⟨4, _⟩ => fun _ _ => True
  | ⟨5, _⟩ => fun t X => R5 t X | ⟨6, _⟩ => fun t X => R6 t X

/-- The relational proof data. -/
abbrev rdat (c : Dev nD) : RDat τ (Elt F) Unit ℕ (UR sig nD τ) ℕ cfg0 c := (dat m c).toRRel mask (Rl R5 R6)

/-- The pieces stored at a point of the first column. -/
abbrev LA (c : Dev nD) (t : Fin cfg0.N) (h : ¬last (grid0.coords t)) (x6 : Vec F S256x11264 .fp8e5m2) :=
  (runA c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) (iblk m c 4 t) x6)
/-- The pieces stored at a point of the second column. -/
abbrev LB (c : Dev nD) (t : Fin cfg0.N) (h : last (grid0.coords t)) (x6 : Vec F S256x11264 .fp8e5m2) :=
  (runB c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) (iblk m c 4 t) x6)

/-- What the stores have to establish of the two predicates. -/
structure Good (c : Dev nD) : Prop where
  first5 : ∀ t : Fin cfg0.N, ¬last (grid0.coords t) → ∀ x, R5 t x
  first6 : ∀ (t : Fin cfg0.N) (h : ¬last (grid0.coords t)) (x6 : Vec F S256x11264 .fp8e5m2),
    R6 t ((ms6 t).view.read (Elt F) ((ms6 t).view.writes (Elt F) ((hs6 t).unread x6) (LA m c t h x6).1))
  last5 : ∀ (t : Fin cfg0.N) (h : last (grid0.coords t)) (x6 : Vec F S256x11264 .fp8e5m2),
    R6 ⟨t.val - 1, Nat.lt_of_le_of_lt (Nat.sub_le _ _) t.isLt⟩ x6 → ∀ f,
    R5 t ((ms5 t).view.read (Elt F) ((ms5 t).view.writes (Elt F) f (LB m c t h x6).1))
  last6 : ∀ (t : Fin cfg0.N) (h : last (grid0.coords t)) (x6 : Vec F S256x11264 .fp8e5m2),
    R6 ⟨t.val - 1, Nat.lt_of_le_of_lt (Nat.sub_le _ _) t.isLt⟩ x6 →
    R6 t ((ms6 t).view.read (Elt F) ((ms6 t).view.writes (Elt F) ((hs6 t).unread x6) (LB m c t h x6).2.1))

/-- At a point of the second column the block of codes is as the point before left it. -/
theorem found (c : Dev nD) (t : Fin cfg0.N) (h : last (grid0.coords t)) (X : Vec F S256x11264 .fp8e5m2)
    (hX : (rdat m R5 R6 c).Finds 6 t X) : R6 ⟨t.val - 1, Nat.lt_of_le_of_lt (Nat.sub_le _ _) t.isLt⟩ X := by
  have ht : t.val % 2 = 1 := (last_iff t).mp h
  rcases ((rdat m R5 R6 c).finds_of_pos (w := 6) (t := t) rfl (by omega) X).mp hX with hf | hl
  · have := (flush0_6 _).mp hf
    dsimp only at this
    omega
  · exact (dat m c).toRRel_leaves (fgt := mask) (Rl := Rl R5 R6) (w := 6) rfl hl

/-- What the body is called with at a point. -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ Y, ⌜(rdat m R5 R6 c).Finds 5 t Y⌝ ∗ owns (c : Thread nD τ) (ms5 t) fullShare Y)
    ∗ (∃ Y, ⌜(rdat m R5 R6 c).Finds 6 t Y⌝ ∗ owns (c : Thread nD τ) (ms6 t) fullShare Y))

/-- What it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ (∃ X, ⌜R5 t X⌝ ∗ owns (c : Thread nD τ) (ms5 t) fullShare X)
    ∗ (∃ X, ⌜R6 t X⌝ ∗ owns (c : Thread nD τ) (ms6 t) fullShare X))

variable {R5 R6}

set_option maxHeartbeats 4000000 in
/-- The body at any point. -/
theorem sound (c : Dev nD) (hg : Good m R5 R6 c) (t : Fin cfg0.N) :
    bodyPre m R5 R6 c t ⊢ wp frame (wpE (defs₀ (F := F)) Variants.none c none) Set.univ (bodyAt0 t) (fun _ => bodyPost m R5 R6 c t) := by
  unfold bodyPre bodyPost bodyAt0
  simp only [before_0, before_1, before_2, before_3, before_4, after_0, after_1, after_2, after_3, after_4]
  rw [show (dat m c).owesAt () t.succ = (dat m c).owesAt () t.castSucc from rfl]
  rw [show (dat m c).Φ t.succ = (dat m c).Φ t.castSucc from rfl]
  iintro ⟨HΦ, Ho, ⟨%d0, H0⟩, ⟨%d1, H1⟩, ⟨%d2, H2⟩, ⟨%d3, H3⟩, ⟨%d4, H4⟩, ⟨%x5, %hx5, H5⟩, ⟨%x6, %hx6, H6⟩⟩
  by_cases h : last (grid0.coords t)
  · have hp := found m R5 R6 c t h x6 hx6
    iapply ((LB m c t h x6).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%f, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact hg.last5 t h x6 hp f
      unfold owns; iexists _; isplitr
      swap; · iexact H5
      ipureintro; rfl
    iexists _; isplitr
    · ipureintro; exact hg.last6 t h x6 hp
    unfold owns; iexists _; isplitr
    swap; · iexact H6
    ipureintro; rfl
  · iapply ((LA m c t h x6).2 x5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      · ipureintro; exact hg.first5 t h x5
      iexact H5
    iexists _; isplitr
    · ipureintro; exact hg.first6 t h x6
    unfold owns; iexists _; isplitr
    swap; · iexact H6
    ipureintro; rfl

/-- The body table's row at a point is the body there. -/
theorem row (t : Fin cfg0.N) :
    defs₀ (F := F) .tc cfg0.body (cfg0.bodyArgs t (cfg0.slots t)) = bodyAt0 t := by
  unfold defs₀; rw [Defs.onTc_tc]

/-- The body obligation. -/
theorem obligation (c : Dev nD) (hg : Good m R5 R6 c) :
    BodyObligationRel (dat (F := F) m c) (defs₀ (F := F)) Variants.none () Set.univ mask (Rl R5 R6) := fun t => by
  rw [bigSep_W0, bigSep_W0, row]
  exact triple_restated (sound m c hg t) rfl .rfl fun _ => .rfl

set_option backward.isDefEq.respectTransparency.types false in
set_option maxHeartbeats 800000 in
/-- Every run ends, every counter is back at zero, and the arrays hold what the predicates allow. -/
theorem run_main (hg : ∀ c, Good m R5 R6 c) :
    θ_run defs (onTc (τ := τ) (main (F := F))) (s₀ m ρ)
      (fun r => RDat.FramePost cfg0 (rdat m R5 R6) (V m) r ∧ r.2.sem = fun _ => 0) :=
  Pipeline.RDat.θ_run_frame_track_shared (Q' := _) cfgs (0 : Fin 1) launch₀0 defs₀ Variants.none (rdat m R5 R6) m ρ main
    (hbody := fun c => (obligation m c (hg c)).toRRel) (hq := fun _ _ _ => rfl)
    (howed := fun _ _ => rfl) (V := V m)
    (hmain := hmain m Variants.none) (hA := A_eq m) (hin := fun _ => .rfl) (hout := fun _ => .rfl)
    (hQ' := fun _ h => h)

/-- The argument arrays end unchanged. -/
theorem args_of_post {r : PUnit × MemSt nD τ sig (Elt F)} (h : RDat.FramePost cfg0 (rdat m R5 R6) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (RDat.FramePost.arr_in h c 1 rfl).trans ((A_eq m c 1).trans (V_main_arg3 m c)),
   ((h c).2 main_arg4 (Pipeline.mem_restRefs_of main_arg4 (by decide) (by decide))).trans (V_main_arg4 m c),
   (RDat.FramePost.arr_in h c 4 rfl).trans ((A_eq m c 4).trans (V_main_arg5 m c))⟩

/-- The frame: nothing is needed of the predicates, so both are taken to hold of everything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m h.1 c, h.2⟩)
    (run_main m ρ (R5 := fun _ _ => True) (R6 := fun _ _ => True)
      fun _ => ⟨fun _ _ _ => trivial, fun _ _ _ => trivial, fun _ _ _ _ _ => trivial, fun _ _ _ _ => trivial⟩)

end Cert.Dx.Body

end
-- ==== Proof.lean ====
/-
  The certificate's claim. For each kernel call: the kernel, its ideal reading and its reference terminate with their
  arguments unchanged and every semaphore at zero, the ideal reading keeps the kernel (no rewrite is
  made), and the kernel and the reference end with the same results at the ideal instance:

  * `Amax` (the scale of the largest magnitude): `Proof/AmaxRef.lean`, `algebraic_amax`
  * `Da` (the products with `W2`, the codes of `dY` and the scale of `dH`): `Proof/DaRef.lean`, `algebraic_da`
  * `Dx` (the codes of `dH` and the products with `W1`): `Proof/DxRef.lean`, `algebraic_dx`
  * `Dw1` (`dW1`): `Proof/Dw1Ref.lean`, `algebraic_dw1`
  * `Dw2` (`dW2`): `Proof/Dw2Ref.lean`, `algebraic_dw2`
-/
module

public import proofs.«01_k».proof.Defs
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxRefIdeal
public import proofs.«01_k».proof.Proof.Gen.AmaxRefIdeal.Run
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.DaRefIdeal.Skeleton
public import proofs.«01_k».proof.Proof.Gen.DaRefIdeal.Launch
public import proofs.«01_k».proof.Proof.Gen.DaRefIdeal.Points
public import proofs.«01_k».proof.Proof.Gen.DaRefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.DxRefIdeal.Value
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1Ideal.Value
public import proofs.«01_k».proof.Proof.Gen.Dw1RefIdeal
public import proofs.«01_k».proof.Proof.Gen.Dw1RefIdeal.Skeleton
public import proofs.«01_k».proof.Proof.Gen.Dw1RefIdeal.Launch
public import proofs.«01_k».proof.Proof.Gen.Dw1RefIdeal.Points
public import proofs.«01_k».proof.Proof.Gen.Dw1RefIdeal.Frame
public import proofs.«01_k».proof.Proof.Gen.Dw1RefIdeal.Value
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2Ideal.Value
public import proofs.«01_k».proof.Proof.Gen.Dw2RefIdeal
public import proofs.«01_k».proof.Proof.Gen.Dw2RefIdeal.Skeleton
public import proofs.«01_k».proof.Proof.Gen.Dw2RefIdeal.Launch
public import proofs.«01_k».proof.Proof.Gen.Dw2RefIdeal.Points
public import proofs.«01_k».proof.Proof.Gen.Dw2RefIdeal.Frame
public import proofs.«01_k».proof.Proof.Gen.Dw2RefIdeal.Value
public import proofs.«01_k».proof.Proof.AmaxRef
public import proofs.«01_k».proof.Proof.DaRef
public import proofs.«01_k».proof.Proof.DxRef
public import proofs.«01_k».proof.Proof.Dw1Ref
public import proofs.«01_k».proof.Proof.Dw2Ref
public import proofs.«01_k».proof.Proof.DxBody
public import proofs.«01_k».proof.Proof.DxIdealBody
public import Idealize.ShloMosaic.Adequacy
public import Idealize.ShloMosaic.Init

@[expose] public section

noncomputable section

namespace Cert.Proof

open Idealize.ShloMosaic Idealize.SL.Sem

/-- Every claim of the certificate: the programs' facts, the frames in program order, and the two claims of each pair. -/
theorem claim : Cert.Claim := ⟨Cert.Amax.Gen.facts, Cert.AmaxIdeal.Gen.facts, Cert.AmaxRefIdeal.Gen.facts, Cert.Da.Gen.facts, Cert.DaIdeal.Gen.facts, Cert.DaRefIdeal.Gen.facts, Cert.Dx.Gen.facts, Cert.DxIdeal.Gen.facts, Cert.DxRefIdeal.Gen.facts, Cert.Dw1.Gen.facts, Cert.Dw1Ideal.Gen.facts, Cert.Dw1RefIdeal.Gen.facts, Cert.Dw2.Gen.facts, Cert.Dw2Ideal.Gen.facts, Cert.Dw2RefIdeal.Gen.facts,
  fun m ρ _ => Cert.Amax.Gen.frame m ρ, fun m ρ _ => Cert.AmaxIdeal.Gen.frame m ρ, Cert.frame_amaxref,
  fun m ρ _ => Cert.Da.Gen.frame m ρ, fun m ρ _ => Cert.DaIdeal.Gen.frame m ρ, fun m ρ _ => Cert.DaRefIdeal.Gen.frame m ρ,
  fun m ρ _ => Cert.Dx.Body.frame m ρ, fun m ρ _ => Cert.DxIdeal.Body.frame m ρ, fun m ρ _ => Cert.DxRefIdeal.Gen.frame m ρ,
  fun m ρ _ => Cert.Dw1.Gen.frame m ρ, fun m ρ _ => Cert.Dw1Ideal.Gen.frame m ρ, fun m ρ _ => Cert.Dw1RefIdeal.Gen.frame m ρ,
  fun m ρ _ => Cert.Dw2.Gen.frame m ρ, fun m ρ _ => Cert.Dw2Ideal.Gen.frame m ρ, fun m ρ _ => Cert.Dw2RefIdeal.Gen.frame m ρ,
  trivial, Cert.algebraic_amax, trivial, Cert.algebraic_da, trivial, Cert.algebraic_dx, trivial, Cert.algebraic_dw1, trivial, Cert.algebraic_dw2⟩

end Cert.Proof

end
